-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥
  ∧ IdealRules.named_const.Statement Cert.KernelIdeal.κ "scale" .f32 0x3DB504F3#32 (((Real.sqrt 128)⁻¹ : ℝ) : EReal)

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x1024x1024 : Shape := ⟨3, ![1, 1024, 1024]⟩
abbrev S1024x1024 : Shape := ⟨2, ![1024, 1024]⟩
abbrev S4x1024x32x128 : Shape := ⟨4, ![4, 1024, 32, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x1024x32x128 : S_.BroadcastsInDim S4x1024x32x128 (![] : Fin 0 → Fin S4x1024x32x128.rank)
  reducesTo_S4x1024x32x128_S_d0_1_2_3 : S4x1024x32x128.ReducesTo [0, 1, 2, 3] S_

variable [Facts]

def fn {F : FTy → Type} [FloatOps F] (main_arg0 : FVec F S1x1024x1024 .f32) (main_arg1 : FVec F S1024x1024 .f32) (main_arg2 : FVec F S4x1024x32x128 .f32) (main_arg3 : FVec F S4x1024x32x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x1024x32x128 .f32 := Host.absf main_arg2
  let main_cst_2 : FVec F S_ .f32 := constant S_ .f32 0x7F800000#32
  let main_v10 : FVec F S4x1024x32x128 .f32 := broadcastInDim S4x1024x32x128 ![] bcast_S_S4x1024x32x128 main_cst_2
  let main_v11 : IVec S4x1024x32x128 1 := cmpf .olt main_v9 main_v10
  let main_c_3 : IVec S_ 1 := constantI S_ 1 1#1
  let main_v12 : IVec S_ 1 := (fun x v => Host.reduce IntOp.andi x v reducesTo_S4x1024x32x128_S_d0_1_2_3 h_S_) main_v11 main_c_3
  let main_v13 : IVec S_ 1 := andi main_v8 main_v12
  main_v13
-- ==== Pre_scores_finite_ReferenceIdeal.lean ====
abbrev S4x1024x1024 : Shape := ⟨3, ![4, 1024, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4x1024x32x128 : S_.BroadcastsInDim S4x1024x32x128 (![] : Fin 0 → Fin S4x1024x32x128.rank)
  reducesTo_S4x1024x32x128_S_d0_1_2_3 : S4x1024x32x128.ReducesTo [0, 1, 2, 3] S_

variable [Facts]

def fn {F : FTy → Type} [FloatOps F] (main_arg0 : FVec F S4x1024x1024 .f32) (main_arg1 : FVec F S1024x4096 .f32) (main_arg2 : FVec F S4x1024x32x128 .f32) (main_arg3 : FVec F S4x1024x32x128 .f32) (main_arg4 : FVec F S4096x1024 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4x1024x32x128 .f32 := Host.absf main_arg2
  let main_cst_2 : FVec F S_ .f32 := constant S_ .f32 0x7F800000#32
  let main_v10 : FVec F S4x1024x32x128 .f32 := broadcastInDim S4x1024x32x128 ![] bcast_S_S4x1024x32x128 main_cst_2
  let main_v11 : IVec S4x1024x32x128 1 := cmpf .olt main_v9 main_v10
  let main_c_3 : IVec S_ 1 := constantI S_ 1 1#1
  let main_v12 : IVec S_ 1 := (fun x v => Host.reduce IntOp.andi x v reducesTo_S4x1024x32x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S4x1024x32x128 : Shape := ⟨4, ![4, 1024, 32, 128]⟩
abbrev S_ : Shape := ⟨0, ![]⟩
abbrev S1x1024x32x128 : Shape := ⟨4, ![1, 1024, 32, 128]⟩
abbrev S1024x32x128 : Shape := ⟨3, ![1024, 32, 128]⟩
abbrev S32x1024x128 : Shape := ⟨3, ![32, 1024, 128]⟩
abbrev S2x1024x1024 : Shape := ⟨3, ![2, 1024, 1024]⟩
abbrev S2x2x1024x1024 : Shape := ⟨4, ![2, 2, 1024, 1024]⟩
abbrev S2x8x1024x128 : Shape := ⟨4, ![2, 8, 1024, 128]⟩
abbrev S3 : Shape := ⟨1, ![3]⟩
abbrev S2x2 : Shape := ⟨2, ![2, 2]⟩
abbrev S1x1 : Shape := ⟨2, ![1, 1]⟩
abbrev S1x8x1024x128 : Shape := ⟨4, ![1, 8, 1024, 128]⟩
abbrev S8x1024x128 : Shape := ⟨3, ![8, 1024, 128]⟩
abbrev S1 : Shape := ⟨1, ![1]⟩
abbrev S1x2x1024x1024 : Shape := ⟨4, ![1, 2, 1024, 1024]⟩
abbrev S1x1024x128 : Shape := ⟨3, ![1, 1024, 128]⟩
abbrev S1024x128 : Shape := ⟨2, ![1024, 128]⟩
abbrev S1x1x1024x128 : Shape := ⟨4, ![1, 1, 1024, 128]⟩
abbrev S1024 : Shape := ⟨1, ![1024]⟩
abbrev S1024x1 : Shape := ⟨2, ![1024, 1]⟩
abbrev S1x128x1024 : Shape := ⟨3, ![1, 128, 1024]⟩
abbrev S128x1024 : Shape := ⟨2, ![128, 1024]⟩

abbrev nBuf : Space → Nat
  | .hbm => 85
  | .vmem => 7
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S4x1024x32x128, .f32⟩
  | .hbm, ⟨3, _⟩ => ⟨S4x1024x32x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .f32⟩
  | .hbm, ⟨12, _⟩ => ⟨S1024x1024, .bf16⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x1024x32x128, .f32⟩
  | .hbm, ⟨43, _⟩ => ⟨S1024x32x128, .f32⟩
  | .hbm, ⟨44, _⟩ => ⟨S32x1024x128, .f32⟩
  | .hbm, ⟨45, _⟩ => ⟨S32x1024x128, .bf16⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S1x1024x32x128, .f32⟩
  | .hbm, ⟨76, _⟩ => ⟨S1024x32x128, .f32⟩
  | .hbm, ⟨77, _⟩ => ⟨S32x1024x128, .f32⟩
  | .hbm, ⟨78, _⟩ => ⟨S32x1024x128, .bf16⟩
  | .hbm, ⟨79, _⟩ => ⟨S1x1024x1024, .f32⟩
  | .hbm, ⟨80, _⟩ => ⟨S1x1024x1024, .f32⟩
  | .hbm, ⟨81, _⟩ => ⟨S2x1024x1024, .f32⟩
  | .hbm, ⟨82, _⟩ => ⟨S2x1024x1024, .bf16⟩
  | .hbm, ⟨83, _⟩ => ⟨S1024x1024, .f32⟩
  | .hbm, ⟨84, _⟩ => ⟨S1x1024x1024, .f32⟩
  | .local _ .vmem, ⟨0, _⟩ => ⟨S1024x1024, .bf16⟩
  | .local _ .vmem, ⟨1, _⟩ => ⟨S2x1024x1024, .bf16⟩
  | .local _ .vmem, ⟨2, _⟩ => ⟨S1024x1024, .f32⟩
  | .local _ .vmem, ⟨3, _⟩ => ⟨S2x2x1024x1024, .bf16⟩
  | .local _ .vmem, ⟨4, _⟩ => ⟨S2x8x1024x128, .bf16⟩
  | .local _ .vmem, ⟨5, _⟩ => ⟨S2x8x1024x128, .bf16⟩
  | .local _ .vmem, ⟨6, _⟩ => ⟨S1024x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => true
  | ⟨1, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 2 13 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_c_4 : Ref sig .tc := ⟨.hbm, 19, rfl⟩
abbrev main_v10 : Ref sig .tc := ⟨.hbm, 20, rfl⟩
abbrev main_c_5 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_c_8 : Ref sig .tc := ⟨.hbm, 26, rfl⟩
abbrev main_c_9 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_v14 : Ref sig .tc := ⟨.hbm, 31, rfl⟩
abbrev main_c_12 : Ref sig .tc := ⟨.hbm, 32, rfl⟩
abbrev main_v15 : Ref sig .tc := ⟨.hbm, 33, rfl⟩
abbrev main_c_13 : Ref sig .tc := ⟨.hbm, 34, rfl⟩
abbrev main_c_14 : Ref sig .tc := ⟨.hbm, 35, rfl⟩
abbrev main_v16 : Ref sig .tc := ⟨.hbm, 36, rfl⟩
abbrev main_c_15 : Ref sig .tc := ⟨.hbm, 37, rfl⟩
abbrev main_c_16 : Ref sig .tc := ⟨.hbm, 38, rfl⟩
abbrev main_v17 : Ref sig .tc := ⟨.hbm, 39, rfl⟩
abbrev main_c_17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_18 : Ref sig .tc := ⟨.hbm, 46, rfl⟩
abbrev main_v23 : Ref sig .tc := ⟨.hbm, 47, rfl⟩
abbrev main_c_19 : Ref sig .tc := ⟨.hbm, 48, rfl⟩
abbrev main_v24 : Ref sig .tc := ⟨.hbm, 49, rfl⟩
abbrev main_v25 : Ref sig .tc := ⟨.hbm, 50, rfl⟩
abbrev main_c_20 : Ref sig .tc := ⟨.hbm, 51, rfl⟩
abbrev main_c_21 : Ref sig .tc := ⟨.hbm, 52, rfl⟩
abbrev main_v26 : Ref sig .tc := ⟨.hbm, 53, rfl⟩
abbrev main_c_22 : Ref sig .tc := ⟨.hbm, 54, rfl⟩
abbrev main_c_23 : Ref sig .tc := ⟨.hbm, 55, rfl⟩
abbrev main_v27 : Ref sig .tc := ⟨.hbm, 56, rfl⟩
abbrev main_c_24 : Ref sig .tc := ⟨.hbm, 57, rfl⟩
abbrev main_v28 : Ref sig .tc := ⟨.hbm, 58, rfl⟩
abbrev main_c_25 : Ref sig .tc := ⟨.hbm, 59, rfl⟩
abbrev main_c_26 : Ref sig .tc := ⟨.hbm, 60, rfl⟩
abbrev main_v29 : Ref sig .tc := ⟨.hbm, 61, rfl⟩
abbrev main_c_27 : Ref sig .tc := ⟨.hbm, 62, rfl⟩
abbrev main_c_28 : Ref sig .tc := ⟨.hbm, 63, rfl⟩
abbrev main_v30 : Ref sig .tc := ⟨.hbm, 64, rfl⟩
abbrev main_c_29 : Ref sig .tc := ⟨.hbm, 65, rfl⟩
abbrev main_v31 : Ref sig .tc := ⟨.hbm, 66, rfl⟩
abbrev main_c_30 : Ref sig .tc := ⟨.hbm, 67, rfl⟩
abbrev main_c_31 : Ref sig .tc := ⟨.hbm, 68, rfl⟩
abbrev main_v32 : Ref sig .tc := ⟨.hbm, 69, rfl⟩
abbrev main_c_32 : Ref sig .tc := ⟨.hbm, 70, rfl⟩
abbrev main_c_33 : Ref sig .tc := ⟨.hbm, 71, rfl⟩
abbrev main_v33 : Ref sig .tc := ⟨.hbm, 72, rfl⟩
abbrev main_c_34 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 1

abbrev nD : Nat := 4
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v7 : BitVec 32 := Scalar.muli v2 c8_i32
  let c0_i32_9 : BitVec 32 := 0#32
  let c0_i32_10 : BitVec 32 := 0#32
  ![v7.toNat, 0, 0]
def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_20 : BitVec 32 := 1#32
  let v20 : BitVec 32 := Scalar.muli v4 c1_i32_20
  let v21 : BitVec 32 := Scalar.addi c0_i32_21 v20
  v21.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_23 : BitVec 32 := 1#32
  let v22 : BitVec 32 := Scalar.muli v6 c1_i32_23
  let v23 : BitVec 32 := Scalar.addi c0_i32_24 v22
  v23.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_31 : BitVec 32 := 1#32
  let v42 : BitVec 32 := Scalar.muli v6 c1_i32_31
  let v43 : BitVec 32 := Scalar.addi c0_i32_32 v42
  v43.toNat
def k0_off2 (d0 : Dev nD) (c3_i32_52 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v60 : BitVec 32 := Scalar.addi v2 c3_i32_52
  let c4_i32_53 : BitVec 32 := 4#32
  let v61 : BitVec 32 := Scalar.remsi v60 c4_i32_53
  let c8_i32_54 : BitVec 32 := 8#32
  let v62 : BitVec 32 := Scalar.muli v61 c8_i32_54
  let c0_i32_62 : BitVec 32 := 0#32
  let c0_i32_63 : BitVec 32 := 0#32
  ![v62.toNat, 0, 0]
@[reducible] def k0_t1_loop : Scf.Loop 32 :=
  let c0_i32_75 : BitVec 32 := 0#32
  let c8_i32_76 : BitVec 32 := 8#32
  let v76 : BitVec 32 := Scalar.addi c0_i32_75 c8_i32_76
  let c1_i32_77 : BitVec 32 := 1#32
  ⟨c0_i32_75, v76, c1_i32_77⟩
def k0_off3 (k0_t1 : Fin k0_t1_loop.trips) : Fin 3 → Nat :=
  let c0_275 : Index := 0#32
  let c0_276 : Index := 0#32
  let c0_i32_75 : BitVec 32 := 0#32
  let c1_i32_77 : BitVec 32 := 1#32
  let arg13 : BitVec 32 := Scf.iv c0_i32_75 c1_i32_77 k0_t1
  let c128_i32_272 : BitVec 32 := 128#32
  let v198 : BitVec 32 := Scalar.muli arg13 c128_i32_272
  let v201 : Index := Scalar.indexCast v198
  ![0, 0, v201.toNat]
def k0_off4 (k0_t1 : Fin k0_t1_loop.trips) : Fin 4 → Nat :=
  let c0_278 : Index := 0#32
  let c0_i32_75 : BitVec 32 := 0#32
  let c1_i32_77 : BitVec 32 := 1#32
  let arg13 : BitVec 32 := Scf.iv c0_i32_75 c1_i32_77 k0_t1
  let v206 : Index := Scalar.indexCast arg13
  let c0_279 : Index := 0#32
  let c0_280 : Index := 0#32
  ![0, v206.toNat, 0, 0]
def k0_off5 (k0_t1 : Fin k0_t1_loop.trips) : Fin 3 → Nat :=
  let c1 : Index := 1#32
  let c0_i32_75 : BitVec 32 := 0#32
  let c1_i32_77 : BitVec 32 := 1#32
  let arg13 : BitVec 32 := Scf.iv c0_i32_75 c1_i32_77 k0_t1
  let c128_i32_272 : BitVec 32 := 128#32
  let v198 : BitVec 32 := Scalar.muli arg13 c128_i32_272
  let v231 : Index := Scalar.indexCast v198
  let c0_293 : Index := 0#32
  ![1, v231.toNat, 0]
def k0_dev4 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_98 : BitVec 32 := 1#32
  let v87 : BitVec 32 := Scalar.muli v6 c1_i32_98
  let v88 : BitVec 32 := Scalar.addi c0_i32_99 v87
  v88.toNat
@[reducible] def k0_t2_loop : Scf.Loop 32 :=
  let c0_i32_143 : BitVec 32 := 0#32
  let c8_i32_144 : BitVec 32 := 8#32
  let v121 : BitVec 32 := Scalar.addi c0_i32_143 c8_i32_144
  let c1_i32_145 : BitVec 32 := 1#32
  ⟨c0_i32_143, v121, c1_i32_145⟩
def k0_off6 (k0_t2 : Fin k0_t2_loop.trips) : Fin 3 → Nat :=
  let c0_278 : Index := 0#32
  let c0_279 : Index := 0#32
  let c0_i32_143 : BitVec 32 := 0#32
  let c1_i32_145 : BitVec 32 := 1#32
  let arg13 : BitVec 32 := Scf.iv c0_i32_143 c1_i32_145 k0_t2
  let c128_i32_272 : BitVec 32 := 128#32
  let v198 : BitVec 32 := Scalar.muli arg13 c128_i32_272
  let v203 : Index := Scalar.indexCast v198
  ![0, 0, v203.toNat]
def k0_off7 (k0_t2 : Fin k0_t2_loop.trips) : Fin 4 → Nat :=
  let c1 : Index := 1#32
  let c0_i32_143 : BitVec 32 := 0#32
  let c1_i32_145 : BitVec 32 := 1#32
  let arg13 : BitVec 32 := Scf.iv c0_i32_143 c1_i32_145 k0_t2
  let v208 : Index := Scalar.indexCast arg13
  let c0_281 : Index := 0#32
  let c0_282 : Index := 0#32
  ![1, v208.toNat, 0, 0]
def k0_off8 (k0_t2 : Fin k0_t2_loop.trips) : Fin 3 → Nat :=
  let c1_298 : Index := 1#32
  let c0_i32_143 : BitVec 32 := 0#32
  let c1_i32_145 : BitVec 32 := 1#32
  let arg13 : BitVec 32 := Scf.iv c0_i32_143 c1_i32_145 k0_t2
  let c128_i32_272 : BitVec 32 := 128#32
  let v198 : BitVec 32 := Scalar.muli arg13 c128_i32_272
  let v235 : Index := Scalar.indexCast v198
  let c0_299 : Index := 0#32
  ![1, v235.toNat, 0]
def k0_dev5 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_171 : BitVec 32 := 1#32
  let v136 : BitVec 32 := Scalar.muli v4 c1_i32_171
  let v137 : BitVec 32 := Scalar.addi c0_i32_172 v136
  v137.toNat
def k0_dev6 (d0 : Dev nD) : Nat :=
  let c0_i32_180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_179 : BitVec 32 := 1#32
  let v138 : BitVec 32 := Scalar.muli v6 c1_i32_179
  let v139 : BitVec 32 := Scalar.addi c0_i32_180 v138
  v139.toNat
@[reducible] def k0_t3_loop : Scf.Loop 32 :=
  let c0_i32_224 : BitVec 32 := 0#32
  let c8_i32_225 : BitVec 32 := 8#32
  let v172 : BitVec 32 := Scalar.addi c0_i32_224 c8_i32_225
  let c1_i32_226 : BitVec 32 := 1#32
  ⟨c0_i32_224, v172, c1_i32_226⟩
def k0_off9 (k0_t3 : Fin k0_t3_loop.trips) : Fin 3 → Nat :=
  let c0_278 : Index := 0#32
  let c0_279 : Index := 0#32
  let c0_i32_224 : BitVec 32 := 0#32
  let c1_i32_226 : BitVec 32 := 1#32
  let arg13 : BitVec 32 := Scf.iv c0_i32_224 c1_i32_226 k0_t3
  let c128_i32_272 : BitVec 32 := 128#32
  let v198 : BitVec 32 := Scalar.muli arg13 c128_i32_272
  let v203 : Index := Scalar.indexCast v198
  ![0, 0, v203.toNat]
def k0_off10 (k0_t3 : Fin k0_t3_loop.trips) : Fin 4 → Nat :=
  let c0_281 : Index := 0#32
  let c0_i32_224 : BitVec 32 := 0#32
  let c1_i32_226 : BitVec 32 := 1#32
  let arg13 : BitVec 32 := Scf.iv c0_i32_224 c1_i32_226 k0_t3
  let v208 : Index := Scalar.indexCast arg13
  let c0_282 : Index := 0#32
  let c0_283 : Index := 0#32
  ![0, v208.toNat, 0, 0]
def k0_off11 (k0_t3 : Fin k0_t3_loop.trips) : Fin 3 → Nat :=
  let c1 : Index := 1#32
  let c0_i32_224 : BitVec 32 := 0#32
  let c1_i32_226 : BitVec 32 := 1#32
  let arg13 : BitVec 32 := Scf.iv c0_i32_224 c1_i32_226 k0_t3
  let c128_i32_272 : BitVec 32 := 128#32
  let v198 : BitVec 32 := Scalar.muli arg13 c128_i32_272
  let v235 : Index := Scalar.indexCast v198
  let c0_299 : Index := 0#32
  ![1, v235.toNat, 0]
@[reducible] def k0_t4_loop : Scf.Loop 32 :=
  let c0_i32_268 : BitVec 32 := 0#32
  let c8_i32_269 : BitVec 32 := 8#32
  let v197 : BitVec 32 := Scalar.addi c0_i32_268 c8_i32_269
  let c1_i32_270 : BitVec 32 := 1#32
  ⟨c0_i32_268, v197, c1_i32_270⟩
def k0_off12 (k0_t4 : Fin k0_t4_loop.trips) : Fin 3 → Nat :=
  let c0_278 : Index := 0#32
  let c0_279 : Index := 0#32
  let c0_i32_268 : BitVec 32 := 0#32
  let c1_i32_270 : BitVec 32 := 1#32
  let arg13 : BitVec 32 := Scf.iv c0_i32_268 c1_i32_270 k0_t4
  let c128_i32_272 : BitVec 32 := 128#32
  let v198 : BitVec 32 := Scalar.muli arg13 c128_i32_272
  let v203 : Index := Scalar.indexCast v198
  ![0, 0, v203.toNat]
def k0_off13 (k0_t4 : Fin k0_t4_loop.trips) : Fin 4 → Nat :=
  let c1 : Index := 1#32
  let c0_i32_268 : BitVec 32 := 0#32
  let c1_i32_270 : BitVec 32 := 1#32
  let arg13 : BitVec 32 := Scf.iv c0_i32_268 c1_i32_270 k0_t4
  let v208 : Index := Scalar.indexCast arg13
  let c0_281 : Index := 0#32
  let c0_282 : Index := 0#32
  ![1, v208.toNat, 0, 0]
def k0_off14 (k0_t4 : Fin k0_t4_loop.trips) : Fin 3 → Nat :=
  let c1_298 : Index := 1#32
  let c0_i32_268 : BitVec 32 := 0#32
  let c1_i32_270 : BitVec 32 := 1#32
  let arg13 : BitVec 32 := Scf.iv c0_i32_268 c1_i32_270 k0_t4
  let c128_i32_272 : BitVec 32 := 128#32
  let v198 : BitVec 32 := Scalar.muli arg13 c128_i32_272
  let v235 : Index := Scalar.indexCast v198
  let c0_299 : Index := 0#32
  ![1, v235.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S4x1024x1024 : Shape := ⟨3, ![4, 1024, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S4x1024x4096 : Shape := ⟨3, ![4, 1024, 4096]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S4x32x1024x1024 : Shape := ⟨4, ![4, 32, 1024, 1024]⟩
abbrev S1x1x1024x1024 : Shape := ⟨4, ![1, 1, 1024, 1024]⟩
abbrev S4x32x1024 : Shape := ⟨3, ![4, 32, 1024]⟩
abbrev S4x32x1024x1 : Shape := ⟨4, ![4, 32, 1024, 1]⟩
abbrev S1x1x1024x1 : Shape := ⟨4, ![1, 1, 1024, 1]⟩
abbrev S4x32x128x1024 : Shape := ⟨4, ![4, 32, 128, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S1024x4096, .f32⟩
  | .hbm, ⟨2, _⟩ => ⟨S4x1024x32x128, .f32⟩
  | .hbm, ⟨3, _⟩ => ⟨S4x1024x32x128, .f32⟩
  | .hbm, ⟨4, _⟩ => ⟨S4096x1024, .f32⟩
  | .hbm, ⟨5, _⟩ => ⟨S4x1024x4096, .f32⟩
  | .hbm, ⟨6, _⟩ => ⟨S4x1024x32x128, .f32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S_, .i32⟩
  | .hbm, ⟨19, _⟩ => ⟨S1x1024, .i32⟩
  | .hbm, ⟨20, _⟩ => ⟨S1x1024, .i1⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S1024x1024, .i1⟩
  | .hbm, ⟨25, _⟩ => ⟨S1024x1024, .i1⟩
  | .hbm, ⟨26, _⟩ => ⟨S1024x1024, .i1⟩
  | .hbm, ⟨27, _⟩ => ⟨S1024x1024, .i1⟩
  | .hbm, ⟨28, _⟩ => ⟨S4x32x1024x1024, .f32⟩
  | .hbm, ⟨29, _⟩ => ⟨S_, .f32⟩
  | .hbm, ⟨30, _⟩ => ⟨S_, .f32⟩
  | .hbm, ⟨31, _⟩ => ⟨S4x32x1024x1024, .f32⟩
  | .hbm, ⟨32, _⟩ => ⟨S4x32x1024x1024, .f32⟩
  | .hbm, ⟨33, _⟩ => ⟨S1x1x1024x1024, .i1⟩
  | .hbm, ⟨34, _⟩ => ⟨S_, .f32⟩
  | .hbm, ⟨35, _⟩ => ⟨S_, .f32⟩
  | .hbm, ⟨36, _⟩ => ⟨S4x32x1024x1024, .i1⟩
  | .hbm, ⟨37, _⟩ => ⟨S4x32x1024x1024, .f32⟩
  | .hbm, ⟨38, _⟩ => ⟨S4x32x1024x1024, .f32⟩
  | .hbm, ⟨39, _⟩ => ⟨S_, .f32⟩
  | .hbm, ⟨40, _⟩ => ⟨S4x32x1024, .f32⟩
  | .hbm, ⟨41, _⟩ => ⟨S4x32x1024x1, .f32⟩
  | .hbm, ⟨42, _⟩ => ⟨S4x32x1024x1024, .f32⟩
  | .hbm, ⟨43, _⟩ => ⟨S4x32x1024x1024, .f32⟩
  | .hbm, ⟨44, _⟩ => ⟨S4x32x1024x1024, .f32⟩
  | .hbm, ⟨45, _⟩ => ⟨S_, .i1⟩
  | .hbm, ⟨46, _⟩ => ⟨S1024, .i1⟩
  | .hbm, ⟨47, _⟩ => ⟨S1x1x1024x1, .i1⟩
  | .hbm, ⟨48, _⟩ => ⟨S_, .f32⟩
  | .hbm, ⟨49, _⟩ => ⟨S4x32x1024, .f32⟩
  | .hbm, ⟨50, _⟩ => ⟨S4x32x1024x1, .f32⟩
  | .hbm, ⟨51, _⟩ => ⟨S_, .f32⟩
  | .hbm, ⟨52, _⟩ => ⟨S_, .f32⟩
  | .hbm, ⟨53, _⟩ => ⟨S4x32x1024x1, .i1⟩
  | .hbm, ⟨54, _⟩ => ⟨S4x32x1024x1, .f32⟩
  | .hbm, ⟨55, _⟩ => ⟨S4x32x1024x1, .f32⟩
  | .hbm, ⟨56, _⟩ => ⟨S4x32x1024x1024, .f32⟩
  | .hbm, ⟨57, _⟩ => ⟨S4x32x1024x1024, .f32⟩
  | .hbm, ⟨58, _⟩ => ⟨S1x1x1024x1, .i1⟩
  | .hbm, ⟨59, _⟩ => ⟨S_, .f32⟩
  | .hbm, ⟨60, _⟩ => ⟨S_, .f32⟩
  | .hbm, ⟨61, _⟩ => ⟨S4x32x1024x1024, .i1⟩
  | .hbm, ⟨62, _⟩ => ⟨S4x32x1024x1024, .f32⟩
  | .hbm, ⟨63, _⟩ => ⟨S4x32x1024x1024, .f32⟩
  | .hbm, ⟨64, _⟩ => ⟨S4x32x128x1024, .f32⟩
  | .hbm, ⟨65, _⟩ => ⟨S4x1024x32x128, .f32⟩
  | .hbm, ⟨66, _⟩ => ⟨S4x1024x4096, .f32⟩
  | .hbm, ⟨67, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== Proof.Protocol.lean ====
/-
  The four devices' protocol: the semaphores the kernel's cross-device traffic goes through, who pays each of them, how
  much, and what each payment hands over; the levels that order the waits; and the ghost state of one device.
-/
module

public import proofs.«01_k».proof.Proof.Gen.KernelIdeal.Launch
public import proofs.«01_k».proof.Proof.Gen.KernelIdeal.Points
public import proofs.«01_k».proof.Proof.Gen.KernelIdeal.Regions
public import proofs.«01_k».proof.Proof.Gen.KernelIdeal.Skeleton
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.VecWindow
public import Idealize.ShloMosaic.Lib.Tactic
public import Idealize.ShloMosaic.PureOps

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-! ## The resource algebra -/

/-- The protocol's own algebra: rounds with two duties, named by a truth value. -/
abbrev RA2 : Type := URounds (GSem nD τ sig) Bool
/-- The pipeline's algebra beside the protocol's and the counters of the local copies. -/
abbrev UU : Type := UR sig nD τ × (RA2 × Counters)

local notation "𝕄" => MT nD τ sig Unit (Elt F) ℕ UU ℕ

/-- The pipeline's part of the state. -/
abbrev EP : Emb (UR sig nD τ) (MT nD τ sig Unit (Elt F) ℕ UU ℕ) := embL
/-- The protocol's part of the state. -/
def ER : Emb RA2 (MT nD τ sig Unit (Elt F) ℕ UU ℕ) := (Emb.inl : Emb RA2 (RA2 × Counters)).trans embR

instance ER_landsIn : (ER : Emb RA2 𝕄).LandsIn (upEmb : UEmb _ 𝕄) := by unfold ER embR; infer_instance

/-! ## The ring of devices -/

/-- The device on the right. -/
def rt (c : Dev nD) : Dev nD := ⟨(c.val + 1) % 4, Nat.mod_lt _ (by decide)⟩
/-- The device on the left. -/
def lf (c : Dev nD) : Dev nD := ⟨(c.val + 3) % 4, Nat.mod_lt _ (by decide)⟩

theorem rt_lf (c : Dev nD) : rt (lf c) = c := by revert c; decide
theorem lf_rt (c : Dev nD) : lf (rt c) = c := by revert c; decide
theorem dev1_lf (c : Dev nD) : (⟨k0_dev1 c, k0_dev1_lt c⟩ : Dev nD) = lf c := Fin.ext (k0_dev1_eq c)
theorem dev2_rt (c : Dev nD) : (⟨k0_dev2 c, k0_dev2_lt c⟩ : Dev nD) = rt c := Fin.ext (k0_dev2_eq c)
theorem dev3_rt (c : Dev nD) : (⟨k0_dev3 c, k0_dev3_lt c⟩ : Dev nD) = rt c := Fin.ext (k0_dev3_eq c)
theorem dev4_rt (c : Dev nD) : (⟨k0_dev4 c, k0_dev4_lt c⟩ : Dev nD) = rt c := Fin.ext (k0_dev4_eq c)
theorem dev5_lf (c : Dev nD) : (⟨k0_dev5 c, k0_dev5_lt c⟩ : Dev nD) = lf c := Fin.ext (k0_dev5_eq c)
theorem dev6_rt (c : Dev nD) : (⟨k0_dev6 c, k0_dev6_lt c⟩ : Dev nD) = rt c := Fin.ext (k0_dev6_eq c)

/-- The ring's turn by one place, as a bijection of the devices. -/
def ring : Dev nD ≃ Dev nD := ⟨rt, lf, lf_rt, rt_lf⟩

/-! ## The memrefs the body runs on -/

/-- The staged activations. -/
abbrev aX : Memref sig .tc .vmem S1024x1024 .bf16 := Memref.whole cc0_stg0_0
/-- The staged weights: the query projection over the output projection. -/
abbrev aW : Memref sig .tc .vmem S2x1024x1024 .bf16 := Memref.whole cc0_stg1_0
/-- The keys. -/
abbrev aK : Memref sig .tc .hbm S32x1024x128 .bf16 := Memref.whole main_v22
/-- The values. -/
abbrev aV : Memref sig .tc .hbm S32x1024x128 .bf16 := Memref.whole main_v38
/-- The staged result. -/
abbrev aO : Memref sig .tc .vmem S1024x1024 .f32 := Memref.whole cc0_stg2_0
/-- The two landing slots of the weights. -/
abbrev aB : Memref sig .tc .vmem S2x2x1024x1024 .bf16 := Memref.whole cc0_scratch0
/-- The two slots of key heads. -/
abbrev aKs : Memref sig .tc .vmem S2x8x1024x128 .bf16 := Memref.whole cc0_scratch1
/-- The two slots of value heads. -/
abbrev aVs : Memref sig .tc .vmem S2x8x1024x128 .bf16 := Memref.whole cc0_scratch2
/-- The mask's bias. -/
abbrev aM : Memref sig .tc .vmem S1024x1024 .f32 := Memref.whole cc0_scratch3

/-- Landing slot 0 of the weights. -/
abbrev slot0 : Memref sig .tc .vmem S2x1024x1024 .bf16 :=
  (aB.slice (Rect.unit (s := S2x2x1024x1024) ![0, 0, 0, 0] S1x2x1024x1024.size inb_S2x2x1024x1024_S1x2x1024x1024_0_0_0_0) (fun _ => rfl)).squeeze
    S2x1024x1024 squeezes_S1x2x1024x1024_S2x1024x1024
/-- Landing slot 1 of the weights. -/
abbrev slot1 : Memref sig .tc .vmem S2x1024x1024 .bf16 :=
  (aB.slice (Rect.unit (s := S2x2x1024x1024) ![1, 0, 0, 0] S1x2x1024x1024.size inb_S2x2x1024x1024_S1x2x1024x1024_1_0_0_0) (fun _ => rfl)).squeeze
    S2x1024x1024 squeezes_S1x2x1024x1024_S2x1024x1024

/-! ## The cells -/

/-- The barrier's semaphore. -/
abbrev barS : Sem sig := 1
/-- The credit's semaphore. -/
abbrev crS : Sem sig := 0
/-- The departure semaphores of the three hops. -/
abbrev sd0 : DmaSem sig := 3
abbrev sd1 : DmaSem sig := 4
abbrev sd2 : DmaSem sig := 5
/-- The arrival semaphores of the three hops. -/
abbrev rv0 : DmaSem sig := 6
abbrev rv1 : DmaSem sig := 7
abbrev rv2 : DmaSem sig := 8

abbrev barCell (c : Dev nD) : GSem nD τ sig := ((c : Thread nD τ), .reg barS)
abbrev crCell (c : Dev nD) : GSem nD τ sig := ((c : Thread nD τ), .reg crS)
abbrev sdCell0 (c : Dev nD) : GSem nD τ sig := ((c : Thread nD τ), .dma sd0)
abbrev sdCell1 (c : Dev nD) : GSem nD τ sig := ((c : Thread nD τ), .dma sd1)
abbrev sdCell2 (c : Dev nD) : GSem nD τ sig := ((c : Thread nD τ), .dma sd2)
abbrev rvCell0 (c : Dev nD) : GSem nD τ sig := ((c : Thread nD τ), .dma rv0)
abbrev rvCell1 (c : Dev nD) : GSem nD τ sig := ((c : Thread nD τ), .dma rv1)
abbrev rvCell2 (c : Dev nD) : GSem nD τ sig := ((c : Thread nD τ), .dma rv2)

/-- What one copy of the weights credits. -/
abbrev N : ℕ := (slot0 : Memref sig .tc .vmem S2x1024x1024 .bf16).view.dmaCredit
theorem N_pos : 0 < N := View.dmaCredit_pos _ (by decide)

/-! ## What the payments hand over -/

/-- A block of weights: two matrices. -/
abbrev WT (F : FTy → Type) : Type := S2x1024x1024.Idx → Elt F .bf16

/-- Device `c`'s slot 0 at the weights `X`. -/
abbrev at0 (c : Dev nD) (q : PosShare TreeShare) (X : WT F) : sProp 𝕄 :=
  slot0.view.loc (c : Thread nD τ) ↦[slot0.view.set]{q} slot0.view.rep X
/-- Device `c`'s slot 1 at the weights `X`. -/
abbrev at1 (c : Dev nD) (q : PosShare TreeShare) (X : WT F) : sProp 𝕄 :=
  slot1.view.loc (c : Thread nD τ) ↦[slot1.view.set]{q} slot1.view.rep X
/-- Device `c`'s staged weights at `X`. -/
abbrev atW (c : Dev nD) (q : PosShare TreeShare) (X : WT F) : sProp 𝕄 :=
  aW.view.loc (c : Thread nD τ) ↦[aW.view.set]{q} aW.view.rep X
/-- Device `c`'s slot 0 at contents `f`. -/
abbrev raw0 (c : Dev nD) (f : Buf (Elt F) (slot0.view.loc (c : Thread nD τ))) : sProp 𝕄 :=
  slot0.view.loc (c : Thread nD τ) ↦[slot0.view.set]{fullShare} f
/-- Device `c`'s slot 1 at contents `f`. -/
abbrev raw1 (c : Dev nD) (f : Buf (Elt F) (slot1.view.loc (c : Thread nD τ))) : sProp 𝕄 :=
  slot1.view.loc (c : Thread nD τ) ↦[slot1.view.set]{fullShare} f
/-- Device `c`'s slot 0 at some contents. -/
def any0 (c : Dev nD) : sProp 𝕄 := iprop(∃ f, raw0 (F := F) c f)
/-- Device `c`'s slot 1 at some contents. -/
def any1 (c : Dev nD) : sProp 𝕄 := iprop(∃ f, raw1 (F := F) c f)

/-- The share of a source that a copy out of it borrows, and the one that stays to be read. -/
abbrev hL : PosShare TreeShare := fullShare.left
abbrev hR : PosShare TreeShare := fullShare.right

-- The weights of every device, as it staged them.
variable (Wv : Dev nD → WT F)

/-- Paid to `c`'s barrier by the device on its right: that device's two landing slots, and that its arrival cells are open. -/
def barPayR (c : Dev nD) : sProp 𝕄 :=
  iprop(any0 (F := F) (rt c) ∗ any1 (F := F) (rt c) ∗ reached ER (rvCell0 (rt c)) 0 ∗ reached ER (rvCell1 (rt c)) 0
    ∗ reached ER (rvCell2 (rt c)) 0)
/-- Paid to `c`'s barrier by the device on its left: that its credit cell is open. -/
def barPayL (c : Dev nD) : sProp 𝕄 := iprop(reached ER (crCell (lf c)) 0)
/-- Paid to `c`'s credit by the device on its right: that device's slot 0, free again. -/
def crPay (c : Dev nD) : sProp 𝕄 := any0 (F := F) (rt c)
/-- Paid to `c`'s departure cells by its own copies: the borrowed half of the source. -/
def sdPay0 (c : Dev nD) : sProp 𝕄 := atW c hL (Wv c)
def sdPay1 (c : Dev nD) : sProp 𝕄 := at0 c hL (Wv (lf c))
def sdPay2 (c : Dev nD) : sProp 𝕄 := at1 c hL (Wv (lf (lf c)))
/-- Paid to `c`'s arrival cells by its left neighbour's copies: `c`'s slot at the weights that landed. -/
def rvPay0 (c : Dev nD) : sProp 𝕄 := at0 c fullShare (Wv (lf c))
def rvPay1 (c : Dev nD) : sProp 𝕄 := at1 c fullShare (Wv (lf (lf c)))
def rvPay2 (c : Dev nD) : sProp 𝕄 := at0 c fullShare (Wv (lf (lf (lf c))))

/-- The semaphores the protocol manages. -/
abbrev IsSem (s : SemLoc sig) : Prop :=
  s = .reg barS ∨ s = .reg crS ∨ s = .dma sd0 ∨ s = .dma sd1 ∨ s = .dma sd2 ∨ s = .dma rv0 ∨ s = .dma rv1 ∨ s = .dma rv2

theorem isSem_bar : IsSem (.reg barS) := by decide
theorem isSem_cr : IsSem (.reg crS) := by decide
theorem isSem_sd0 : IsSem (.dma sd0) := by decide
theorem isSem_sd1 : IsSem (.dma sd1) := by decide
theorem isSem_sd2 : IsSem (.dma sd2) := by decide
theorem isSem_rv0 : IsSem (.dma rv0) := by decide
theorem isSem_rv1 : IsSem (.dma rv1) := by decide
theorem isSem_rv2 : IsSem (.dma rv2) := by decide

/-- Their cells, on the TensorCores. -/
abbrev IsCell (g : GSem nD τ sig) : Prop := g.1.2 = .tc ∧ IsSem g.2

/-- The schedule: one round per cell; two duties on a barrier, one on every other cell. -/
def Rd : Rounds.Schedule (GSem nD τ sig) Bool 𝕄 where
  duties g r := if r = 0 ∧ IsCell g then (if g.2 = .reg barS then {true, false} else {true}) else ∅
  unitless _ := False
  amount g _ _ := if g.2 = .reg barS ∨ g.2 = .reg crS then 1 else N
  payload g _ d :=
    if g.2 = .reg barS then (if d = true then barPayR g.1.1 else barPayL g.1.1)
    else if g.2 = .reg crS then crPay g.1.1
    else if g.2 = .dma sd0 then sdPay0 Wv g.1.1
    else if g.2 = .dma sd1 then sdPay1 Wv g.1.1
    else if g.2 = .dma sd2 then sdPay2 Wv g.1.1
    else if g.2 = .dma rv0 then rvPay0 Wv g.1.1
    else if g.2 = .dma rv1 then rvPay1 Wv g.1.1
    else if g.2 = .dma rv2 then rvPay2 Wv g.1.1
    else iprop(emp)
  amount_pos g _ _ _ := by
    split
    · exact Nat.one_pos
    · exact N_pos

instance raw0_storable (c : Dev nD) (f) : BI.Storable (upEmb : UEmb _ 𝕄) (raw0 (F := F) c f) := inferInstance
instance raw1_storable (c : Dev nD) (f) : BI.Storable (upEmb : UEmb _ 𝕄) (raw1 (F := F) c f) := inferInstance
instance any0_storable (c : Dev nD) : BI.Storable (upEmb : UEmb _ 𝕄) (any0 (F := F) c) := by unfold any0; infer_instance
instance any1_storable (c : Dev nD) : BI.Storable (upEmb : UEmb _ 𝕄) (any1 (F := F) c) := by unfold any1; infer_instance
instance barPayR_storable (c : Dev nD) : BI.Storable (upEmb : UEmb _ 𝕄) (barPayR (F := F) c) := by
  unfold barPayR; infer_instance
instance barPayL_storable (c : Dev nD) : BI.Storable (upEmb : UEmb _ 𝕄) (barPayL (F := F) c) := by
  unfold barPayL; infer_instance
instance crPay_storable (c : Dev nD) : BI.Storable (upEmb : UEmb _ 𝕄) (crPay (F := F) c) := by
  unfold crPay; infer_instance
instance sdPay0_storable (c : Dev nD) : BI.Storable (upEmb : UEmb _ 𝕄) (sdPay0 (F := F) Wv c) := by
  unfold sdPay0; infer_instance
instance sdPay1_storable (c : Dev nD) : BI.Storable (upEmb : UEmb _ 𝕄) (sdPay1 (F := F) Wv c) := by
  unfold sdPay1; infer_instance
instance sdPay2_storable (c : Dev nD) : BI.Storable (upEmb : UEmb _ 𝕄) (sdPay2 (F := F) Wv c) := by
  unfold sdPay2; infer_instance
instance rvPay0_storable (c : Dev nD) : BI.Storable (upEmb : UEmb _ 𝕄) (rvPay0 (F := F) Wv c) := by
  unfold rvPay0; infer_instance
instance rvPay1_storable (c : Dev nD) : BI.Storable (upEmb : UEmb _ 𝕄) (rvPay1 (F := F) Wv c) := by
  unfold rvPay1; infer_instance
instance rvPay2_storable (c : Dev nD) : BI.Storable (upEmb : UEmb _ 𝕄) (rvPay2 (F := F) Wv c) := by
  unfold rvPay2; infer_instance

instance Rd_storable (g : GSem nD τ sig) (r : ℕ) (d : Bool) :
    BI.Storable (upEmb : UEmb _ 𝕄) ((Rd (F := F) Wv).payload g r d) := by
  dsimp only [Rd]
  (repeat' split) <;> infer_instance

section Sched

variable (c : Dev nD)

theorem duties_bar : (Rd (F := F) Wv).duties (barCell c) 0 = {true, false} := by
  dsimp only [Rd]; exact (if_pos ⟨rfl, rfl, isSem_bar⟩).trans (if_pos rfl)
theorem duties_one (sm : SemLoc sig) (h : IsCell ((c : Thread nD τ), sm)) (hb : sm ≠ .reg barS) :
    (Rd (F := F) Wv).duties ((c : Thread nD τ), sm) 0 = {true} := by
  dsimp only [Rd]; rw [if_pos ⟨rfl, h⟩, if_neg hb]
theorem duties_cr : (Rd (F := F) Wv).duties (crCell c) 0 = {true} := duties_one Wv c _ ⟨rfl, isSem_cr⟩ (by decide)
theorem duties_sd0 : (Rd (F := F) Wv).duties (sdCell0 c) 0 = {true} := duties_one Wv c _ ⟨rfl, isSem_sd0⟩ (by decide)
theorem duties_sd1 : (Rd (F := F) Wv).duties (sdCell1 c) 0 = {true} := duties_one Wv c _ ⟨rfl, isSem_sd1⟩ (by decide)
theorem duties_sd2 : (Rd (F := F) Wv).duties (sdCell2 c) 0 = {true} := duties_one Wv c _ ⟨rfl, isSem_sd2⟩ (by decide)
theorem duties_rv0 : (Rd (F := F) Wv).duties (rvCell0 c) 0 = {true} := duties_one Wv c _ ⟨rfl, isSem_rv0⟩ (by decide)
theorem duties_rv1 : (Rd (F := F) Wv).duties (rvCell1 c) 0 = {true} := duties_one Wv c _ ⟨rfl, isSem_rv1⟩ (by decide)
theorem duties_rv2 : (Rd (F := F) Wv).duties (rvCell2 c) 0 = {true} := duties_one Wv c _ ⟨rfl, isSem_rv2⟩ (by decide)
theorem duties_later (g : GSem nD τ sig) : ∀ r, 1 ≤ r → (Rd (F := F) Wv).duties g r = ∅ :=
  fun r hr => by dsimp only [Rd]; rw [if_neg (fun h => by omega)]

theorem amount_reg (sm : SemLoc sig) (h : sm = .reg barS ∨ sm = .reg crS) (d : Bool) :
    (Rd (F := F) Wv).amount ((c : Thread nD τ), sm) 0 d = 1 := by dsimp only [Rd]; exact if_pos h
theorem amount_dma (s : DmaSem sig) (d : Bool) :
    (Rd (F := F) Wv).amount ((c : Thread nD τ), .dma s) 0 d = N := by
  dsimp only [Rd]; exact if_neg (fun h => by rcases h with h | h <;> cases h)

theorem expect_bar : (Rd (F := F) Wv).expect (barCell c) 0 = 2 := by
  unfold Schedule.expect Schedule.amountOf
  rw [duties_bar, Finset.sum_pair (by decide), amount_reg Wv c _ (.inl rfl), amount_reg Wv c _ (.inl rfl)]
theorem expect_cr : (Rd (F := F) Wv).expect (crCell c) 0 = 1 := by
  unfold Schedule.expect Schedule.amountOf
  rw [duties_cr, Finset.sum_singleton, amount_reg Wv c _ (.inr rfl)]
theorem expect_dma (s : DmaSem sig) (h : (Rd (F := F) Wv).duties ((c : Thread nD τ), .dma s) 0 = {true}) :
    (Rd (F := F) Wv).expect ((c : Thread nD τ), .dma s) 0 = N := by
  unfold Schedule.expect Schedule.amountOf
  rw [h, Finset.sum_singleton, amount_dma]

theorem payload_barR : (Rd (F := F) Wv).payload (barCell c) 0 true = barPayR c := by
  dsimp only [Rd]; rw [if_pos rfl, if_pos rfl]
theorem payload_barL : (Rd (F := F) Wv).payload (barCell c) 0 false = barPayL c := by
  dsimp only [Rd]; rw [if_pos rfl, if_neg (by decide)]
theorem payload_cr (d : Bool) : (Rd (F := F) Wv).payload (crCell c) 0 d = crPay c := by
  dsimp only [Rd]; rw [if_neg (by decide), if_pos rfl]
theorem payload_sd0 (d : Bool) : (Rd (F := F) Wv).payload (sdCell0 c) 0 d = sdPay0 Wv c := by
  dsimp only [Rd]; rw [if_neg (by decide), if_neg (by decide), if_pos rfl]
theorem payload_sd1 (d : Bool) : (Rd (F := F) Wv).payload (sdCell1 c) 0 d = sdPay1 Wv c := by
  dsimp only [Rd]; rw [if_neg (by decide), if_neg (by decide), if_neg (by decide), if_pos rfl]
theorem payload_sd2 (d : Bool) : (Rd (F := F) Wv).payload (sdCell2 c) 0 d = sdPay2 Wv c := by
  dsimp only [Rd]; rw [if_neg (by decide), if_neg (by decide), if_neg (by decide), if_neg (by decide), if_pos rfl]
theorem payload_rv0 (d : Bool) : (Rd (F := F) Wv).payload (rvCell0 c) 0 d = rvPay0 Wv c := by
  dsimp only [Rd]
  rw [if_neg (by decide), if_neg (by decide), if_neg (by decide), if_neg (by decide), if_neg (by decide), if_pos rfl]
theorem payload_rv1 (d : Bool) : (Rd (F := F) Wv).payload (rvCell1 c) 0 d = rvPay1 Wv c := by
  dsimp only [Rd]
  rw [if_neg (by decide), if_neg (by decide), if_neg (by decide), if_neg (by decide), if_neg (by decide), if_neg (by decide),
    if_pos rfl]
theorem payload_rv2 (d : Bool) : (Rd (F := F) Wv).payload (rvCell2 c) 0 d = rvPay2 Wv c := by
  dsimp only [Rd]
  rw [if_neg (by decide), if_neg (by decide), if_neg (by decide), if_neg (by decide), if_neg (by decide), if_neg (by decide),
    if_neg (by decide), if_pos rfl]

theorem rest_bar : bigSep ((Rd (F := F) Wv).duties (barCell c) 0 \ ∅) (fun d => (Rd (F := F) Wv).payload (barCell c) 0 d)
    = iprop(barPayR (F := F) c ∗ barPayL (F := F) c) := by
  rw [Finset.sdiff_empty, duties_bar, bigSep_insert (by decide), bigSep_singleton, payload_barR, payload_barL]; rfl
theorem rest_one (sm : SemLoc sig) (P : sProp 𝕄) (hd : (Rd (F := F) Wv).duties ((c : Thread nD τ), sm) 0 = {true})
    (hp : (Rd (F := F) Wv).payload ((c : Thread nD τ), sm) 0 true = P) :
    bigSep ((Rd (F := F) Wv).duties ((c : Thread nD τ), sm) 0 \ ∅) (fun d => (Rd (F := F) Wv).payload ((c : Thread nD τ), sm) 0 d)
      = P := by
  rw [Finset.sdiff_empty, hd, bigSep_singleton, hp]

end Sched

/-! ## What each device owes at launch, and the levels of the waits -/

/-- What device `c` owes from the start: a unit to each neighbour's barrier, the three copies to the right, the credit to
    the left. In the order it is paid, last first. -/
def O₀ (c : Dev nD) : CellTallies nD τ sig Unit :=
  tallyAt (rvCell2 (rt c)) () N + tallyAt (crCell (lf c)) () 1 + tallyAt (rvCell1 (rt c)) () N + tallyAt (rvCell0 (rt c)) () N
    + tallyAt (barCell (rt c)) () 1 + tallyAt (barCell (lf c)) () 1

/-- One index per cell of a TensorCore. -/
def L (g : GSem nD τ sig) : Finset Unit := if g.1.2 = .tc then {()} else ∅
/-- The levels: barrier, first arrival, second arrival, credit, third arrival; everything else below. -/
def lvS (s : SemLoc sig) : ℕ :=
  if s = .reg barS then 1 else if s = .dma rv0 then 2 else if s = .dma rv1 then 3 else if s = .reg crS then 4
    else if s = .dma rv2 then 5 else 0
def lv (g : GSem nD τ sig) (_ : Unit) : ℕ := lvS g.2

theorem L_tc (c : Dev nD) (sm : SemLoc sig) : L ((c : Thread nD τ), sm) = {()} := if_pos rfl
theorem L_of_ne (g : GSem nD τ sig) (h : g.1.2 ≠ .tc) : L g = ∅ := if_neg h

/-- A debt all of whose cells are TensorCore cells above level `n`. -/
def Above (n : ℕ) (O : CellTallies nD τ sig Unit) : Prop :=
  ∀ g u, 0 < O g u → u ∈ L g ∧ n < lv g u

theorem above_zero (n : ℕ) : Above n 0 := fun _ _ h => absurd h (Nat.lt_irrefl 0)
theorem above_tally (n : ℕ) (c : Dev nD) (sm : SemLoc sig) (k : ℕ) (h : n < lvS sm) :
    Above n (tallyAt ((c : Thread nD τ), sm) () k) := fun g u hg => by
  rw [tallyAt_apply] at hg
  by_cases hx : g = ((c : Thread nD τ), sm) ∧ u = ()
  · rw [hx.1, L_tc]; exact ⟨Finset.mem_singleton_self _, h⟩
  · rw [if_neg hx] at hg; exact absurd hg (Nat.lt_irrefl 0)
theorem above_add (n : ℕ) {O O' : CellTallies nD τ sig Unit} (h : Above n O) (h' : Above n O') : Above n (O + O') := fun g u hg => by
  rw [Pi.add_apply, Finsupp.add_apply] at hg
  rcases Nat.add_pos_iff_pos_or_pos.mp hg with hg | hg
  · exact h g u hg
  · exact h' g u hg

/-- A wait at a level no higher than anything owed is above is allowed. -/
theorem mayWait (c : Dev nD) (sm : SemLoc sig) (n : ℕ) (hn : lvS sm ≤ n) (O : CellTallies nD τ sig Unit) (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (h g u hg).1) (fun p hp => by rw [Finset.mem_singleton.mp hp]; exact hn) (fun g u hg => (h g u hg).2)

/-- The debts in the order they shrink. -/
abbrev O₂ (c : Dev nD) : CellTallies nD τ sig Unit :=
  tallyAt (rvCell2 (rt c)) () N + tallyAt (crCell (lf c)) () 1 + tallyAt (rvCell1 (rt c)) () N + tallyAt (rvCell0 (rt c)) () N
abbrev O₃ (c : Dev nD) : CellTallies nD τ sig Unit :=
  tallyAt (rvCell2 (rt c)) () N + tallyAt (crCell (lf c)) () 1 + tallyAt (rvCell1 (rt c)) () N
abbrev O₄ (c : Dev nD) : CellTallies nD τ sig Unit := tallyAt (rvCell2 (rt c)) () N + tallyAt (crCell (lf c)) () 1
abbrev O₅ (c : Dev nD) : CellTallies nD τ sig Unit := tallyAt (rvCell2 (rt c)) () N

theorem above_O₅ (c : Dev nD) : Above 4 (O₅ c) := above_tally 4 (rt c) _ N (by decide)
theorem above_O₄ (c : Dev nD) : Above 3 (O₄ c) := above_add 3 (above_tally 3 (rt c) _ N (by decide)) (above_tally 3 (lf c) _ 1 (by decide))
theorem above_O₃ (c : Dev nD) : Above 2 (O₃ c) :=
  above_add 2 (above_add 2 (above_tally 2 (rt c) _ N (by decide)) (above_tally 2 (lf c) _ 1 (by decide))) (above_tally 2 (rt c) _ N (by decide))
theorem above_O₂ (c : Dev nD) : Above 1 (O₂ c) :=
  above_add 1 (above_add 1 (above_add 1 (above_tally 1 (rt c) _ N (by decide)) (above_tally 1 (lf c) _ 1 (by decide)))
    (above_tally 1 (rt c) _ N (by decide))) (above_tally 1 (rt c) _ N (by decide))
theorem above_O₀ (c : Dev nD) : Above 0 (O₀ c) :=
  above_add 0 (above_add 0 (above_add 0 (above_add 0 (above_add 0 (above_tally 0 (rt c) _ N (by decide)) (above_tally 0 (lf c) _ 1 (by decide)))
    (above_tally 0 (rt c) _ N (by decide))) (above_tally 0 (rt c) _ N (by decide))) (above_tally 0 (rt c) _ 1 (by decide)))
    (above_tally 0 (lf c) _ 1 (by decide))

/-! ## One device's ghost state -/

/-- The invariants device `c` opens: its own eight cells, and the five cells of its neighbours that it pays. -/
def invs (K : GSem nD τ sig → ℕ) (c : Dev nD) : sProp 𝕄 :=
  iprop(cellInv ER (Rd Wv) (K (barCell c)) (barCell c) ∗ cellInv ER (Rd Wv) (K (crCell c)) (crCell c)
    ∗ cellInv ER (Rd Wv) (K (sdCell0 c)) (sdCell0 c) ∗ cellInv ER (Rd Wv) (K (sdCell1 c)) (sdCell1 c)
    ∗ cellInv ER (Rd Wv) (K (sdCell2 c)) (sdCell2 c) ∗ cellInv ER (Rd Wv) (K (rvCell0 c)) (rvCell0 c)
    ∗ cellInv ER (Rd Wv) (K (rvCell1 c)) (rvCell1 c) ∗ cellInv ER (Rd Wv) (K (rvCell2 c)) (rvCell2 c)
    ∗ cellInv ER (Rd Wv) (K (barCell (lf c))) (barCell (lf c)) ∗ cellInv ER (Rd Wv) (K (barCell (rt c))) (barCell (rt c))
    ∗ cellInv ER (Rd Wv) (K (crCell (lf c))) (crCell (lf c)) ∗ cellInv ER (Rd Wv) (K (rvCell0 (rt c))) (rvCell0 (rt c))
    ∗ cellInv ER (Rd Wv) (K (rvCell1 (rt c))) (rvCell1 (rt c)) ∗ cellInv ER (Rd Wv) (K (rvCell2 (rt c))) (rvCell2 (rt c)))

instance invs_persistent (K : GSem nD τ sig → ℕ) (c : Dev nD) : BI.Persistent (invs (F := F) Wv K c) := by
  unfold invs; infer_instance

/-- The duty tokens device `c` pays with. -/
def toks (c : Dev nD) : sProp 𝕄 :=
  iprop(dutyTok ER (barCell (lf c)) 0 true ∗ dutyTok ER (barCell (rt c)) 0 false ∗ dutyTok ER (crCell (lf c)) 0 true
    ∗ dutyTok ER (sdCell0 c) 0 true ∗ dutyTok ER (sdCell1 c) 0 true ∗ dutyTok ER (sdCell2 c) 0 true
    ∗ dutyTok ER (rvCell0 (rt c)) 0 true ∗ dutyTok ER (rvCell1 (rt c)) 0 true ∗ dutyTok ER (rvCell2 (rt c)) 0 true)

/-- What device `c` carries from launch to the kernel: the invariants' names, its place on its barrier, the right to open its
    other cells, that its neighbours' barriers are open, and its tokens. -/
def ghost (K : GSem nD τ sig → ℕ) (c : Dev nD) : sProp 𝕄 :=
  iprop(invs Wv K c ∗ atPos ER (barCell c) 0 ∅ 0 ∗ openTok ER (crCell c) ∗ openTok ER (sdCell0 c) ∗ openTok ER (sdCell1 c)
    ∗ openTok ER (sdCell2 c) ∗ openTok ER (rvCell0 c) ∗ openTok ER (rvCell1 c) ∗ openTok ER (rvCell2 c)
    ∗ reached ER (barCell (lf c)) 0 ∗ reached ER (barCell (rt c)) 0 ∗ toks c)

/-- The same once the seven cells of the kernel's own semaphores are open. -/
def opened (K : GSem nD τ sig → ℕ) (c : Dev nD) : sProp 𝕄 :=
  iprop(invs Wv K c ∗ atPos ER (barCell c) 0 ∅ 0 ∗ atPos ER (crCell c) 0 ∅ 0 ∗ atPos ER (sdCell0 c) 0 ∅ 0 ∗ atPos ER (sdCell1 c) 0 ∅ 0
    ∗ atPos ER (sdCell2 c) 0 ∅ 0 ∗ atPos ER (rvCell0 c) 0 ∅ 0 ∗ atPos ER (rvCell1 c) 0 ∅ 0 ∗ atPos ER (rvCell2 c) 0 ∅ 0
    ∗ reached ER (barCell (lf c)) 0 ∗ reached ER (barCell (rt c)) 0
    ∗ reached ER (crCell c) 0 ∗ reached ER (sdCell0 c) 0 ∗ reached ER (sdCell1 c) 0 ∗ reached ER (sdCell2 c) 0
    ∗ reached ER (rvCell0 c) 0 ∗ reached ER (rvCell1 c) 0 ∗ reached ER (rvCell2 c) 0 ∗ toks c)

/-- The credit device `c` waits with. -/
def creds (c : Dev nD) : sProp 𝕄 :=
  iprop(cred (tallyAt (barCell c) () 2) ∗ cred (tallyAt (crCell c) () 1) ∗ cred (tallyAt (rvCell0 c) () N)
    ∗ cred (tallyAt (rvCell1 c) () N) ∗ cred (tallyAt (rvCell2 c) () N))

/-- A cell whose one round is over is closed, its counter back at zero. -/
theorem close (κ : ℕ) (g : GSem nD τ sig) :
    iprop(cellInv ER (Rd Wv) κ g ∗ atPos ER g (0 + 1) ∅ 0) ⊢ (|={Set.univ}=> semVal g 0 : sProp 𝕄) :=
  Rounds.cell_close ER (Rd Wv) (Set.mem_univ κ) id (duties_later Wv g)

/-- The variants: none is needed. -/
abbrev 𝒱₀ : Variants := Variants.none

end Cert.KernelIdeal.Hand
end
-- ==== Proof.Loops.lean ====
/-
  The kernel's four loops over the eight heads of a group: what one trip adds to the accumulator, and each loop by its
  invariant, at the buffers the kernel holds when it meets the loop.
-/
module

public import proofs.«01_k».proof.Proof.Protocol
public import proofs.«01_k».proof.Proof.Gen.KernelIdeal.Loops
public import Idealize.ShloMosaic.Lib.ValueIdxCore
public import Idealize.ShloMosaic.Lib.ValueLayout

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

variable {F : FTy → Type} [FloatOps F] [Named F]

local notation "𝕄" => MT nD τ sig Unit (Elt F) ℕ UU ℕ

/-- A group of eight heads. -/
abbrev HT (F : FTy → Type) : Type := S8x1024x128.Idx → Elt F .bf16

/-- The two slots of key heads and of value heads. -/
abbrev kS0 : Memref sig .tc .vmem S8x1024x128 .bf16 :=
  (aKs.slice (Rect.unit (s := S2x8x1024x128) ![0, 0, 0, 0] S1x8x1024x128.size inb_S2x8x1024x128_S1x8x1024x128_0_0_0_0) (fun _ => rfl)).squeeze
    S8x1024x128 squeezes_S1x8x1024x128_S8x1024x128
abbrev kS1 : Memref sig .tc .vmem S8x1024x128 .bf16 :=
  (aKs.slice (Rect.unit (s := S2x8x1024x128) ![1, 0, 0, 0] S1x8x1024x128.size inb_S2x8x1024x128_S1x8x1024x128_1_0_0_0) (fun _ => rfl)).squeeze
    S8x1024x128 squeezes_S1x8x1024x128_S8x1024x128
abbrev vS0 : Memref sig .tc .vmem S8x1024x128 .bf16 :=
  (aVs.slice (Rect.unit (s := S2x8x1024x128) ![0, 0, 0, 0] S1x8x1024x128.size inb_S2x8x1024x128_S1x8x1024x128_0_0_0_0) (fun _ => rfl)).squeeze
    S8x1024x128 squeezes_S1x8x1024x128_S8x1024x128
abbrev vS1 : Memref sig .tc .vmem S8x1024x128 .bf16 :=
  (aVs.slice (Rect.unit (s := S2x8x1024x128) ![1, 0, 0, 0] S1x8x1024x128.size inb_S2x8x1024x128_S1x8x1024x128_1_0_0_0) (fun _ => rfl)).squeeze
    S8x1024x128 squeezes_S1x8x1024x128_S8x1024x128

/-! ## One trip's value -/

/-- Head `h`'s columns of the query projection. -/
def wq (W : WT F) (h : Fin 8) : Vec F S1x1024x128 .bf16 := fun y =>
  W (ix3 (n0 := 2) (n1 := 1024) (n2 := 1024) 0 (y 1) ⟨128 * h.val + (y 2).val, by have : (y 2).val < 128 := (y 2).isLt; omega⟩)
/-- Head `h`'s rows of the output projection. -/
def wo (W : WT F) (h : Fin 8) : Vec F S1x128x1024 .bf16 := fun y =>
  W (ix3 (n0 := 2) (n1 := 1024) (n2 := 1024) 1 ⟨128 * h.val + (y 1).val, by have : (y 1).val < 128 := (y 1).isLt; omega⟩ (y 2))
/-- Head `h` of a group. -/
def hd (K : HT F) (h : Fin 8) : Vec F S1x1x1024x128 .bf16 := fun y =>
  K (ix3 (n0 := 8) (n1 := 1024) (n2 := 128) h (y 2) (y 3))

/-- The accumulator after head `h`: the head's attention through its rows of the output projection, added on. -/
def trip (X : Vec F S1024x1024 .bf16) (W : WT F) (K : HT F) (B : Vec F S1024x1024 .f32) (V : HT F) (h : Fin 8)
    (acc : Vec F S1024x1024 .f32) : Vec F S1024x1024 .f32 :=
  k0_pay13 (k0_pay2 acc) (k0_pay3 X (wq W h) (hd K h) B (hd V h)) (k0_pay4 (wo W h))

/-- The accumulator after the first `k` heads of a group. -/
def accN (X : Vec F S1024x1024 .bf16) (W : WT F) (K : HT F) (B : Vec F S1024x1024 .f32) (V : HT F)
    (acc : Vec F S1024x1024 .f32) : ℕ → Vec F S1024x1024 .f32
  | 0 => acc
  | k + 1 => if h : k < 8 then trip X W K B V ⟨k, h⟩ (accN X W K B V acc k) else accN X W K B V acc k

theorem accN_succ (X : Vec F S1024x1024 .bf16) (W : WT F) (K : HT F) (B : Vec F S1024x1024 .f32) (V : HT F)
    (acc : Vec F S1024x1024 .f32) (k : ℕ) (h : k < 8) :
    accN X W K B V acc (k + 1) = trip X W K B V ⟨k, h⟩ (accN X W K B V acc k) := by
  rw [accN, dif_pos h]

/-! ## What the loads read -/

/-- Head `h`'s columns read off the staged weights. -/
theorem read_wq {m : Memref sig .tc .vmem S2x1024x1024 .bf16} (f : m.view.ty.Contents (Elt F)) (h : Fin 8) {off : Fin 3 → ℕ}
    (e : off = ![0, 0, 128 * h.val]) (hb : ∀ a, off a + S1x1024x128.size a ≤ S2x1024x1024.size a) :
    m.view.readAt (Elt F) (Rect.unit (s := S2x1024x1024) off S1x1024x128.size hb).toLoadRect f = wq (m.view.read (Elt F) f) h := by
  subst e
  rw [View.readAt_unit m.view f hb rfl hb]
  funext y
  show m.view.read (Elt F) f _ = m.view.read (Elt F) f _
  congr 1
  funext a
  match a with
  | ⟨0, _⟩ => exact Fin.ext (by show 0 + 1 * (y 0).val = 0; have : (y 0).val < 1 := (y 0).isLt; omega)
  | ⟨1, _⟩ => exact Fin.ext (by show 0 + 1 * (y 1).val = (y 1).val; omega)
  | ⟨2, _⟩ => exact Fin.ext (by show 128 * h.val + 1 * (y 2).val = 128 * h.val + (y 2).val; omega)

/-- Head `h`'s rows read off the staged weights. -/
theorem read_wo {m : Memref sig .tc .vmem S2x1024x1024 .bf16} (f : m.view.ty.Contents (Elt F)) (h : Fin 8) {off : Fin 3 → ℕ}
    (e : off = ![1, 128 * h.val, 0]) (hb : ∀ a, off a + S1x128x1024.size a ≤ S2x1024x1024.size a) :
    m.view.readAt (Elt F) (Rect.unit (s := S2x1024x1024) off S1x128x1024.size hb).toLoadRect f = wo (m.view.read (Elt F) f) h := by
  subst e
  rw [View.readAt_unit m.view f hb rfl hb]
  funext y
  show m.view.read (Elt F) f _ = m.view.read (Elt F) f _
  congr 1
  funext a
  match a with
  | ⟨0, _⟩ => exact Fin.ext (by show 1 + 1 * (y 0).val = 1; have : (y 0).val < 1 := (y 0).isLt; omega)
  | ⟨1, _⟩ => exact Fin.ext (by show 128 * h.val + 1 * (y 1).val = 128 * h.val + (y 1).val; omega)
  | ⟨2, _⟩ => exact Fin.ext (by show 0 + 1 * (y 2).val = (y 2).val; omega)

/-- Head `h` of slot `i` read off the two slots' buffer. -/
theorem read_hd {m : Memref sig .tc .vmem S2x8x1024x128 .bf16} (i : Fin 2) (f : m.view.ty.Contents (Elt F)) (h : Fin 8)
    {off : Fin 4 → ℕ} (e : off = ![i.val, h.val, 0, 0]) (hb : ∀ a, off a + S1x1x1024x128.size a ≤ S2x8x1024x128.size a)
    (hs : ∀ a, (![i.val, 0, 0, 0] : Fin 4 → ℕ) a + S1x8x1024x128.size a ≤ S2x8x1024x128.size a) :
    m.view.readAt (Elt F) (Rect.unit (s := S2x8x1024x128) off S1x1x1024x128.size hb).toLoadRect f
      = hd (((m.slice (Rect.unit (s := S2x8x1024x128) ![i.val, 0, 0, 0] S1x8x1024x128.size hs) (fun _ => rfl)).squeeze
          S8x1024x128 squeezes_S1x8x1024x128_S8x1024x128).view.read (Elt F) f) h := by
  subst e
  rw [View.readAt_unit m.view f hb rfl hb]
  funext y
  refine Eq.trans ?_ (congrArg (fun z => m.view.read (Elt F) f ((Rect.unit (s := S2x8x1024x128) ![i.val, 0, 0, 0] S1x8x1024x128.size hs).emb z))
    (reshapeEquiv_ix3_1abc (a := 8) (b := 1024) (c := 128) _ h (y 2) (y 3)).symm)
  show m.view.read (Elt F) f _ = m.view.read (Elt F) f _
  congr 1
  funext a
  match a with
  | ⟨0, _⟩ => exact Fin.ext (by show i.val + 1 * (y 0).val = i.val + 1 * 0; have : (y 0).val < 1 := (y 0).isLt; omega)
  | ⟨1, _⟩ => exact Fin.ext (by show h.val + 1 * (y 1).val = 0 + 1 * h.val; have : (y 1).val < 1 := (y 1).isLt; omega)
  | ⟨2, _⟩ => exact Fin.ext (by show 0 + 1 * (y 2).val = 0 + 1 * (y 2).val; omega)
  | ⟨3, _⟩ => exact Fin.ext (by show 0 + 1 * (y 3).val = 0 + 1 * (y 3).val; omega)

/-- The accumulator's next value, from what the trip's loads read. -/
theorem trip_of {X X' : Vec F S1024x1024 .bf16} {W : WT F} {wq' : Vec F S1x1024x128 .bf16} {wo' : Vec F S1x128x1024 .bf16} {K V : HT F}
    {k' v' : Vec F S1x1x1024x128 .bf16} {B B' acc acc' : Vec F S1024x1024 .f32} {h : Fin 8} (hX : X' = X) (hq : wq' = wq W h)
    (hK : k' = hd K h) (hB : B' = B) (hV : v' = hd V h) (hacc : acc' = acc) (ho : wo' = wo W h) :
    k0_pay13 (k0_pay2 acc') (k0_pay3 X' wq' k' B' v') (k0_pay4 wo') = trip X W K B V h acc := by
  subst hX hq hK hB hV hacc ho; rfl

/-! ## The loop over the device's own weights -/

set_option warn.classDefReducibility false in
/-- The loop over the device's own weights: the buffers read are left as they were, and the accumulator's buffer holds `accN` of what they read. -/
@[sl_loop] def loop1 (𝒱 : Variants) (c : Dev nD) (bd : Option 𝒱.V) (E : Set ℕ) (d0 : Dev nD) (v2 : BitVec 32) (q : PosShare TreeShare)
    (fX : aX.view.ty.Contents (Elt F)) (fW : aW.view.ty.Contents (Elt F)) (fK : kS0.view.ty.Contents (Elt F))
    (fM : aM.view.ty.Contents (Elt F)) (fV : vS0.view.ty.Contents (Elt F)) (fO : aO.view.ty.Contents (Elt F)) :
    LoopInvTy_k0_t1 (F := F) Unit ℕ UU ℕ 𝒱 c bd E aX (Memref.isWhole_whole _) aW (Memref.isWhole_whole _) aK (Memref.isWhole_whole _) aV (Memref.isWhole_whole _)
      aO (Memref.isWhole_whole _) aB (Memref.isWhole_whole _) aKs (Memref.isWhole_whole _) aVs (Memref.isWhole_whole _) aM (Memref.isWhole_whole _)
      cc0_scratch4 cc0_scratch5 cc0_scratch6 cc0_scratch7 d0 v2 where
  inv k _ := iprop((aX.view.loc (c : Thread nD τ) ↦[aX.view.set]{fullShare} fX) ∗ (aW.view.loc (c : Thread nD τ) ↦[aW.view.set]{q} fW)
    ∗ (kS0.view.loc (c : Thread nD τ) ↦[kS0.view.set]{fullShare} fK) ∗ (aM.view.loc (c : Thread nD τ) ↦[aM.view.set]{fullShare} fM)
    ∗ (vS0.view.loc (c : Thread nD τ) ↦[vS0.view.set]{fullShare} fV)
    ∗ (∃ f, (aO.view.loc (c : Thread nD τ) ↦[aO.view.set]{fullShare} f)
      ∗ ⌜aO.view.read (Elt F) f = accN (aX.view.read (Elt F) fX) (aW.view.read (Elt F) fW) (kS0.view.read (Elt F) fK)
          (aM.view.read (Elt F) fM) (vS0.view.read (Elt F) fV) (aO.view.read (Elt F) fO) k⌝))
  step k acc := by
    have hk : k.val < 8 := Nat.lt_of_lt_of_le k.isLt k0_t1_abs.2.1
    unfold k0_t1_body
    iintro ⟨HX, HW, HK, HM, HV, %f, HO, %hf⟩
    sl_exec
    sl_step
    isplitl [HX]; · iexact HX
    isplitl [HW]; · iexact HW
    isplitl [HK]; · iexact HK
    isplitl [HM]; · iexact HM
    isplitl [HV]; · iexact HV
    iexists _
    isplitl [HO]; · iexact HO
    ipureintro
    rw [accN_succ _ _ _ _ _ _ _ hk, ← hf]
    refine (View.read_writes_full aO.view f _ _ []).trans ?_
    exact trip_of (View.readAt_full aX.view fX _) (read_wq (m := aW) fW ⟨k.val, hk⟩ (k0_off3_eq k) _)
      (read_hd (m := aKs) 0 fK ⟨k.val, hk⟩ (k0_off4_eq k) _ inb_S2x8x1024x128_S1x8x1024x128_0_0_0_0)
      (View.readAt_full aM.view fM _)
      (read_hd (m := aVs) 0 fV ⟨k.val, hk⟩ (k0_off4_eq k) _ inb_S2x8x1024x128_S1x8x1024x128_0_0_0_0)
      (View.readAt_full aO.view f _) (read_wo (m := aW) fW ⟨k.val, hk⟩ (k0_off5_eq k) _)

/-! ## The loop over the weights of the device on the left -/

set_option warn.classDefReducibility false in
/-- The loop over the weights of the device on the left: the buffers read are left as they were, and the accumulator's buffer holds `accN` of what they read. -/
@[sl_loop] def loop2 (𝒱 : Variants) (c : Dev nD) (bd : Option 𝒱.V) (E : Set ℕ) (d0 : Dev nD) (v4 v6 w w' : BitVec 32) (q : PosShare TreeShare)
    (fX : aX.view.ty.Contents (Elt F)) (fW : slot0.view.ty.Contents (Elt F)) (fK : kS1.view.ty.Contents (Elt F))
    (fM : aM.view.ty.Contents (Elt F)) (fV : vS1.view.ty.Contents (Elt F)) (fO : aO.view.ty.Contents (Elt F)) :
    LoopInvTy_k0_t2 (F := F) Unit ℕ UU ℕ 𝒱 c bd E aX (Memref.isWhole_whole _) aW (Memref.isWhole_whole _) aK (Memref.isWhole_whole _) aV (Memref.isWhole_whole _)
      aO (Memref.isWhole_whole _) aB (Memref.isWhole_whole _) aKs (Memref.isWhole_whole _) aVs (Memref.isWhole_whole _) aM (Memref.isWhole_whole _)
      cc0_scratch4 cc0_scratch5 cc0_scratch6 cc0_scratch7 d0 v4 v6 w w' where
  inv k _ := iprop((aX.view.loc (c : Thread nD τ) ↦[aX.view.set]{fullShare} fX) ∗ (slot0.view.loc (c : Thread nD τ) ↦[slot0.view.set]{q} fW)
    ∗ (kS1.view.loc (c : Thread nD τ) ↦[kS1.view.set]{fullShare} fK) ∗ (aM.view.loc (c : Thread nD τ) ↦[aM.view.set]{fullShare} fM)
    ∗ (vS1.view.loc (c : Thread nD τ) ↦[vS1.view.set]{fullShare} fV)
    ∗ (∃ f, (aO.view.loc (c : Thread nD τ) ↦[aO.view.set]{fullShare} f)
      ∗ ⌜aO.view.read (Elt F) f = accN (aX.view.read (Elt F) fX) (slot0.view.read (Elt F) fW) (kS1.view.read (Elt F) fK)
          (aM.view.read (Elt F) fM) (vS1.view.read (Elt F) fV) (aO.view.read (Elt F) fO) k⌝))
  step k acc := by
    have hk : k.val < 8 := Nat.lt_of_lt_of_le k.isLt k0_t2_abs.2.1
    unfold k0_t2_body
    iintro ⟨HX, HW, HK, HM, HV, %f, HO, %hf⟩
    sl_exec
    sl_step
    isplitl [HX]; · iexact HX
    isplitl [HW]; · iexact HW
    isplitl [HK]; · iexact HK
    isplitl [HM]; · iexact HM
    isplitl [HV]; · iexact HV
    iexists _
    isplitl [HO]; · iexact HO
    ipureintro
    rw [accN_succ _ _ _ _ _ _ _ hk, ← hf]
    refine (View.read_writes_full aO.view f _ _ []).trans ?_
    exact trip_of (View.readAt_full aX.view fX _) (read_wq (m := slot0) fW ⟨k.val, hk⟩ (k0_off6_eq k) _)
      (read_hd (m := aKs) 1 fK ⟨k.val, hk⟩ (k0_off7_eq k) _ inb_S2x8x1024x128_S1x8x1024x128_1_0_0_0)
      (View.readAt_full aM.view fM _)
      (read_hd (m := aVs) 1 fV ⟨k.val, hk⟩ (k0_off7_eq k) _ inb_S2x8x1024x128_S1x8x1024x128_1_0_0_0)
      (View.readAt_full aO.view f _) (read_wo (m := slot0) fW ⟨k.val, hk⟩ (k0_off8_eq k) _)

/-! ## The loop over the weights of the device opposite -/

set_option warn.classDefReducibility false in
/-- The loop over the weights of the device opposite: the buffers read are left as they were, and the accumulator's buffer holds `accN` of what they read. -/
@[sl_loop] def loop3 (𝒱 : Variants) (c : Dev nD) (bd : Option 𝒱.V) (E : Set ℕ) (d0 : Dev nD) (v6 : BitVec 32) (q : PosShare TreeShare)
    (fX : aX.view.ty.Contents (Elt F)) (fW : slot1.view.ty.Contents (Elt F)) (fK : kS0.view.ty.Contents (Elt F))
    (fM : aM.view.ty.Contents (Elt F)) (fV : vS0.view.ty.Contents (Elt F)) (fO : aO.view.ty.Contents (Elt F)) :
    LoopInvTy_k0_t3 (F := F) Unit ℕ UU ℕ 𝒱 c bd E aX (Memref.isWhole_whole _) aW (Memref.isWhole_whole _) aK (Memref.isWhole_whole _) aV (Memref.isWhole_whole _)
      aO (Memref.isWhole_whole _) aB (Memref.isWhole_whole _) aKs (Memref.isWhole_whole _) aVs (Memref.isWhole_whole _) aM (Memref.isWhole_whole _)
      cc0_scratch4 cc0_scratch5 cc0_scratch6 cc0_scratch7 d0 v6 where
  inv k _ := iprop((aX.view.loc (c : Thread nD τ) ↦[aX.view.set]{fullShare} fX) ∗ (slot1.view.loc (c : Thread nD τ) ↦[slot1.view.set]{q} fW)
    ∗ (kS0.view.loc (c : Thread nD τ) ↦[kS0.view.set]{fullShare} fK) ∗ (aM.view.loc (c : Thread nD τ) ↦[aM.view.set]{fullShare} fM)
    ∗ (vS0.view.loc (c : Thread nD τ) ↦[vS0.view.set]{fullShare} fV)
    ∗ (∃ f, (aO.view.loc (c : Thread nD τ) ↦[aO.view.set]{fullShare} f)
      ∗ ⌜aO.view.read (Elt F) f = accN (aX.view.read (Elt F) fX) (slot1.view.read (Elt F) fW) (kS0.view.read (Elt F) fK)
          (aM.view.read (Elt F) fM) (vS0.view.read (Elt F) fV) (aO.view.read (Elt F) fO) k⌝))
  step k acc := by
    have hk : k.val < 8 := Nat.lt_of_lt_of_le k.isLt k0_t3_abs.2.1
    unfold k0_t3_body
    iintro ⟨HX, HW, HK, HM, HV, %f, HO, %hf⟩
    sl_exec
    sl_step
    isplitl [HX]; · iexact HX
    isplitl [HW]; · iexact HW
    isplitl [HK]; · iexact HK
    isplitl [HM]; · iexact HM
    isplitl [HV]; · iexact HV
    iexists _
    isplitl [HO]; · iexact HO
    ipureintro
    rw [accN_succ _ _ _ _ _ _ _ hk, ← hf]
    refine (View.read_writes_full aO.view f _ _ []).trans ?_
    exact trip_of (View.readAt_full aX.view fX _) (read_wq (m := slot1) fW ⟨k.val, hk⟩ (k0_off9_eq k) _)
      (read_hd (m := aKs) 0 fK ⟨k.val, hk⟩ (k0_off10_eq k) _ inb_S2x8x1024x128_S1x8x1024x128_0_0_0_0)
      (View.readAt_full aM.view fM _)
      (read_hd (m := aVs) 0 fV ⟨k.val, hk⟩ (k0_off10_eq k) _ inb_S2x8x1024x128_S1x8x1024x128_0_0_0_0)
      (View.readAt_full aO.view f _) (read_wo (m := slot1) fW ⟨k.val, hk⟩ (k0_off11_eq k) _)

/-! ## The loop over the weights of the device on the right -/

set_option warn.classDefReducibility false in
/-- The loop over the weights of the device on the right: the buffers read are left as they were, and the accumulator's buffer holds `accN` of what they read. -/
@[sl_loop] def loop4 (𝒱 : Variants) (c : Dev nD) (bd : Option 𝒱.V) (E : Set ℕ) (q : PosShare TreeShare)
    (fX : aX.view.ty.Contents (Elt F)) (fW : slot0.view.ty.Contents (Elt F)) (fK : kS1.view.ty.Contents (Elt F))
    (fM : aM.view.ty.Contents (Elt F)) (fV : vS1.view.ty.Contents (Elt F)) (fO : aO.view.ty.Contents (Elt F)) :
    LoopInvTy_k0_t4 (F := F) Unit ℕ UU ℕ 𝒱 c bd E aX (Memref.isWhole_whole _) aW (Memref.isWhole_whole _) aK (Memref.isWhole_whole _) aV (Memref.isWhole_whole _)
      aO (Memref.isWhole_whole _) aB (Memref.isWhole_whole _) aKs (Memref.isWhole_whole _) aVs (Memref.isWhole_whole _) aM (Memref.isWhole_whole _)
      cc0_scratch4 cc0_scratch5 cc0_scratch6 cc0_scratch7 where
  inv k _ := iprop((aX.view.loc (c : Thread nD τ) ↦[aX.view.set]{fullShare} fX) ∗ (slot0.view.loc (c : Thread nD τ) ↦[slot0.view.set]{q} fW)
    ∗ (kS1.view.loc (c : Thread nD τ) ↦[kS1.view.set]{fullShare} fK) ∗ (aM.view.loc (c : Thread nD τ) ↦[aM.view.set]{fullShare} fM)
    ∗ (vS1.view.loc (c : Thread nD τ) ↦[vS1.view.set]{fullShare} fV)
    ∗ (∃ f, (aO.view.loc (c : Thread nD τ) ↦[aO.view.set]{fullShare} f)
      ∗ ⌜aO.view.read (Elt F) f = accN (aX.view.read (Elt F) fX) (slot0.view.read (Elt F) fW) (kS1.view.read (Elt F) fK)
          (aM.view.read (Elt F) fM) (vS1.view.read (Elt F) fV) (aO.view.read (Elt F) fO) k⌝))
  step k acc := by
    have hk : k.val < 8 := Nat.lt_of_lt_of_le k.isLt k0_t4_abs.2.1
    unfold k0_t4_body
    iintro ⟨HX, HW, HK, HM, HV, %f, HO, %hf⟩
    sl_exec
    sl_step
    isplitl [HX]; · iexact HX
    isplitl [HW]; · iexact HW
    isplitl [HK]; · iexact HK
    isplitl [HM]; · iexact HM
    isplitl [HV]; · iexact HV
    iexists _
    isplitl [HO]; · iexact HO
    ipureintro
    rw [accN_succ _ _ _ _ _ _ _ hk, ← hf]
    refine (View.read_writes_full aO.view f _ _ []).trans ?_
    exact trip_of (View.readAt_full aX.view fX _) (read_wq (m := slot0) fW ⟨k.val, hk⟩ (k0_off12_eq k) _)
      (read_hd (m := aKs) 1 fK ⟨k.val, hk⟩ (k0_off13_eq k) _ inb_S2x8x1024x128_S1x8x1024x128_1_0_0_0)
      (View.readAt_full aM.view fM _)
      (read_hd (m := aVs) 1 fV ⟨k.val, hk⟩ (k0_off13_eq k) _ inb_S2x8x1024x128_S1x8x1024x128_1_0_0_0)
      (View.readAt_full aO.view f _) (read_wo (m := slot0) fW ⟨k.val, hk⟩ (k0_off14_eq k) _)

end Cert.KernelIdeal.Hand
end
-- ==== Proof.Sends.lean ====
/-
  What a device computes, the tables of the protocol that its run reads, and the three copies of weights it sends.
-/
module

public import proofs.«01_k».proof.Proof.Loops

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F] [Named F]

local notation "𝕄" => MT nD τ sig Unit (Elt F) ℕ UU ℕ

/-! ## What a device computes -/

/-- Group `g` of eight heads out of the thirty-two. -/
def grp (K : S32x1024x128.Idx → Elt F .bf16) (g : Dev nD) : HT F := fun y =>
  K (ix3 (n0 := 32) (n1 := 1024) (n2 := 128)
    ⟨8 * g.val + (y 0).val, by have : (y 0).val < 8 := (y 0).isLt; have : g.val < 4 := g.isLt; omega⟩ (y 1) (y 2))

/-- The accumulator after the eight heads of group `g`. -/
def hop (X : Vec F S1024x1024 .bf16) (Wv : Dev nD → WT F) (K V : S32x1024x128.Idx → Elt F .bf16) (g : Dev nD)
    (acc : Vec F S1024x1024 .f32) : Vec F S1024x1024 .f32 :=
  accN X (Wv g) (grp K g) k0_pay11 (grp V g) acc 8

/-- Device `c`'s result: the four groups, its own first, then around the ring to the left. -/
def outOf (X : Vec F S1024x1024 .bf16) (Wv : Dev nD → WT F) (K V : S32x1024x128.Idx → Elt F .bf16) (c : Dev nD) :
    Vec F S1024x1024 .f32 :=
  hop X Wv K V (lf (lf (lf c))) (hop X Wv K V (lf (lf c)) (hop X Wv K V (lf c) (hop X Wv K V c k0_pay12)))

/-- A hop's value, from what the buffers read. -/
theorem hop_of {X : Vec F S1024x1024 .bf16} {Wv : Dev nD → WT F} {K V : S32x1024x128.Idx → Elt F .bf16} {g : Dev nD}
    {acc acc' : Vec F S1024x1024 .f32} {W' : WT F} {K' V' : HT F} {B' : Vec F S1024x1024 .f32} {n : ℕ}
    (hW : W' = Wv g) (hK : K' = grp K g) (hB : B' = k0_pay11) (hV : V' = grp V g) (hacc : acc' = acc) (hn : n = 8) :
    accN X W' K' B' V' acc' n = hop X Wv K V g acc := by
  subst hW hK hB hV hacc hn; rfl

/-- Group `g` read off the thirty-two heads. -/
theorem read_grp {sp : Space} {m : Memref sig .tc sp S32x1024x128 .bf16} (f : m.view.ty.Contents (Elt F)) (g : Dev nD) {off : Fin 3 → ℕ}
    (e : off = ![8 * g.val, 0, 0]) (hb : ∀ a, off a + S8x1024x128.size a ≤ S32x1024x128.size a)
    (hr : ∀ a, (Rect.unit (s := S32x1024x128) off S8x1024x128.size hb).stride a = 1) :
    (m.slice (Rect.unit (s := S32x1024x128) off S8x1024x128.size hb) hr).view.read (Elt F) f = grp (m.view.read (Elt F) f) g := by
  subst e
  funext y
  show m.view.read (Elt F) f _ = m.view.read (Elt F) f _
  congr 1
  funext a
  match a with
  | ⟨0, _⟩ => exact Fin.ext (by show 8 * g.val + 1 * (y 0).val = 8 * g.val + (y 0).val; omega)
  | ⟨1, _⟩ => exact Fin.ext (by show 0 + 1 * (y 1).val = (y 1).val; omega)
  | ⟨2, _⟩ => exact Fin.ext (by show 0 + 1 * (y 2).val = (y 2).val; omega)

/-- What is written over a whole view last is what it reads. -/
theorem read_writes_last {sp : Space} {s : Shape} {e : EltTy} (v : View sig .tc sp s e) (f : v.ty.Contents (Elt F)) (w : s.Idx → Elt F e)
    (L : List (View.Piece (Elt F) s e)) : v.read (Elt F) (v.writes (Elt F) f (⟨Rect.whole s, w⟩ :: L)) = w := by
  rw [← View.write_univ_eq_writes_whole, View.read_write_univ]

theorem off2_lf (c : Dev nD) : k0_off2 c 3#32 = ![8 * (lf c).val, 0, 0] := k0_off2_eq c ⟨2, by decide⟩
theorem off2_lf2 (c : Dev nD) : k0_off2 c 2#32 = ![8 * (lf (lf c)).val, 0, 0] :=
  (k0_off2_eq c ⟨1, by decide⟩).trans (by
    have : (c.val + 1 + 1) % 4 = ((c.val + 3) % 4 + 3) % 4 := by omega
    show ![8 * ((c.val + 1 + 1) % 4), 0, 0] = ![8 * (((c.val + 3) % 4 + 3) % 4), 0, 0]
    rw [this])
theorem off2_lf3 (c : Dev nD) : k0_off2 c 1#32 = ![8 * (lf (lf (lf c))).val, 0, 0] :=
  (k0_off2_eq c ⟨0, by decide⟩).trans (by
    have : (c.val + 0 + 1) % 4 = (((c.val + 3) % 4 + 3) % 4 + 3) % 4 := by omega
    show ![8 * ((c.val + 0 + 1) % 4), 0, 0] = ![8 * ((((c.val + 3) % 4 + 3) % 4 + 3) % 4), 0, 0]
    rw [this])

/-! ## The tables the run reads -/

section Tables

variable (Wv : Dev nD → WT F) (c : Dev nD)

theorem tb_amount_bar (d : Bool) : (Rd (F := F) Wv).amount (barCell c) 0 d = 1 := amount_reg Wv c _ (.inl rfl) d
theorem tb_amount_cr (d : Bool) : (Rd (F := F) Wv).amount (crCell c) 0 d = 1 := amount_reg Wv c _ (.inr rfl) d
theorem tb_barR : (Rd (F := F) Wv).payload (barCell c) 0 true
    = iprop((∃ f, raw0 (F := F) (rt c) f) ∗ (∃ f, raw1 (F := F) (rt c) f) ∗ reached ER (rvCell0 (rt c)) 0 ∗ reached ER (rvCell1 (rt c)) 0
    ∗ reached ER (rvCell2 (rt c)) 0) := payload_barR Wv c
theorem tb_barL : (Rd (F := F) Wv).payload (barCell c) 0 false = iprop(reached ER (crCell (lf c)) 0) := payload_barL Wv c
theorem tb_cr (d : Bool) : (Rd (F := F) Wv).payload (crCell c) 0 d = iprop(∃ f, raw0 (F := F) (rt c) f) := payload_cr Wv c d
theorem tb_sd0 (d : Bool) : (Rd (F := F) Wv).payload (sdCell0 c) 0 d = atW c hL (Wv c) := payload_sd0 Wv c d
theorem tb_sd1 (d : Bool) : (Rd (F := F) Wv).payload (sdCell1 c) 0 d = at0 c hL (Wv (lf c)) := payload_sd1 Wv c d
theorem tb_sd2 (d : Bool) : (Rd (F := F) Wv).payload (sdCell2 c) 0 d = at1 c hL (Wv (lf (lf c))) := payload_sd2 Wv c d
theorem tb_rv0 (d : Bool) : (Rd (F := F) Wv).payload (rvCell0 c) 0 d = at0 c fullShare (Wv (lf c)) := payload_rv0 Wv c d
theorem tb_rv1 (d : Bool) : (Rd (F := F) Wv).payload (rvCell1 c) 0 d = at1 c fullShare (Wv (lf (lf c))) := payload_rv1 Wv c d
theorem tb_rv2 (d : Bool) : (Rd (F := F) Wv).payload (rvCell2 c) 0 d = at0 c fullShare (Wv (lf (lf (lf c)))) := payload_rv2 Wv c d
theorem tb_expect_sd0 : (Rd (F := F) Wv).expect (sdCell0 c) 0 = N := expect_dma Wv c _ (duties_sd0 Wv c)
theorem tb_expect_sd1 : (Rd (F := F) Wv).expect (sdCell1 c) 0 = N := expect_dma Wv c _ (duties_sd1 Wv c)
theorem tb_expect_sd2 : (Rd (F := F) Wv).expect (sdCell2 c) 0 = N := expect_dma Wv c _ (duties_sd2 Wv c)
theorem tb_expect_rv0 : (Rd (F := F) Wv).expect (rvCell0 c) 0 = N := expect_dma Wv c _ (duties_rv0 Wv c)
theorem tb_expect_rv1 : (Rd (F := F) Wv).expect (rvCell1 c) 0 = N := expect_dma Wv c _ (duties_rv1 Wv c)
theorem tb_expect_rv2 : (Rd (F := F) Wv).expect (rvCell2 c) 0 = N := expect_dma Wv c _ (duties_rv2 Wv c)

theorem tb_barR_lf : (Rd (F := F) Wv).payload (barCell (lf c)) 0 true
    = iprop((∃ f, raw0 (F := F) c f) ∗ (∃ f, raw1 (F := F) c f) ∗ reached ER (rvCell0 c) 0 ∗ reached ER (rvCell1 c) 0 ∗ reached ER (rvCell2 c) 0) := by
  have h := tb_barR (F := F) Wv (lf c); rwa [rt_lf c] at h
theorem tb_barL_rt : (Rd (F := F) Wv).payload (barCell (rt c)) 0 false = iprop(reached ER (crCell c) 0) := by
  have h := tb_barL (F := F) Wv (rt c); rwa [lf_rt c] at h
theorem tb_cr_lf (d : Bool) : (Rd (F := F) Wv).payload (crCell (lf c)) 0 d = iprop(∃ f, raw0 (F := F) c f) := by
  have h := tb_cr (F := F) Wv (lf c) d; rwa [rt_lf c] at h
theorem tb_rv0_rt (d : Bool) : (Rd (F := F) Wv).payload (rvCell0 (rt c)) 0 d = at0 (rt c) fullShare (Wv c) := by
  rw [tb_rv0, lf_rt]
theorem tb_rv1_rt (d : Bool) : (Rd (F := F) Wv).payload (rvCell1 (rt c)) 0 d = at1 (rt c) fullShare (Wv (lf c)) := by
  rw [tb_rv1, lf_rt]
theorem tb_rv2_rt (d : Bool) : (Rd (F := F) Wv).payload (rvCell2 (rt c)) 0 d = at0 (rt c) fullShare (Wv (lf (lf c))) := by
  rw [tb_rv2, lf_rt]

end Tables

/-! ## The three copies to the right -/

section Sends

variable (Wv : Dev nD → WT F) (κ : GSem nD τ sig → ℕ) (c : Dev nD)

/-- A copy onto slot 0 of weights read as `X` leaves the slot at `X`. -/
theorem land0 (d : Dev nD) (f : Buf (Elt F) (slot0.view.loc (d : Thread nD τ))) (X Y : WT F) (h : Y = X) :
    (slot0.view.loc (d : Thread nD τ) ↦[slot0.view.set]{fullShare} (slot0.view.write (Elt F) f Y Finset.univ) : sProp 𝕄)
      ⊢ at0 d fullShare X :=
  pointsTo_rep_of_read (d : Thread nD τ) slot0 _ fullShare X ((View.read_write_univ (v := slot0.view) f Y).trans h)
/-- A copy onto slot 1 of weights read as `X` leaves the slot at `X`. -/
theorem land1 (d : Dev nD) (f : Buf (Elt F) (slot1.view.loc (d : Thread nD τ))) (X Y : WT F) (h : Y = X) :
    (slot1.view.loc (d : Thread nD τ) ↦[slot1.view.set]{fullShare} (slot1.view.write (Elt F) f Y Finset.univ) : sProp 𝕄)
      ⊢ at1 d fullShare X :=
  pointsTo_rep_of_read (d : Thread nD τ) slot1 _ fullShare X ((View.read_write_univ (v := slot1.view) f Y).trans h)

/-- The first hop: the device's own weights into the slot 0 on its right. -/
theorem send0 (fd : Buf (Elt F) (slot0.view.loc (rt c : Thread nD τ))) (W : Waits sig Unit) {hsc : slot0.view.ref.isScScratch = false}
    {hsrc : aW.view.WordExact} {hdst : slot0.view.WordExact} {hsem : DmaTarget.Typed .vmem (.dma rv0) (.remote (rt c : Thread nD τ) slot0 (.dma sd0) hsc)}
    {α : Type} {k : PUnit.{1} → Prog (TpuEff nD τ sig (Elt F) Λ₀ .tc) α} {Q : α → sProp 𝕄} :
    iprop(cellInv ER (Rd Wv) (κ (sdCell0 c)) (sdCell0 c) ∗ cellInv ER (Rd Wv) (κ (rvCell0 (rt c))) (rvCell0 (rt c))
        ∗ atW c hL (Wv c) ∗ (slot0.view.loc (rt c : Thread nD τ) ↦[slot0.view.set]{fullShare} fd)
        ∗ owes c (O₂ c) W ∗ dutyTok ER (sdCell0 c) 0 true ∗ reached ER (sdCell0 c) 0
        ∗ dutyTok ER (rvCell0 (rt c)) 0 true ∗ reached ER (rvCell0 (rt c)) 0)
      ⊢ iprop(((cred (tallyAt (sdCell0 c) () N) ∗ owes c (O₃ c) W) -∗ wp frame (wpE defs₀ 𝒱₀ (c : Thread nD τ) none) Set.univ (k PUnit.unit) Q)
          -∗ wp frame (wpE defs₀ 𝒱₀ (c : Thread nD τ) none) Set.univ
              (.op (.enqueueDma aW (.remote (rt c : Thread nD τ) slot0 (.dma sd0) hsc) (.dma rv0) hsrc hdst hsem) k) Q) :=
  Rounds.wp_send_pointsTo 𝒱₀ ER (Rd Wv) (c : Thread nD τ) none (c' := (rt c : Thread nD τ)) (src := aW) (dst := slot0)
    (sS := .dma sd0) (sem := .dma rv0) (q := hL) (fs := aW.view.rep (Wv c)) (fd := fd) (r₁ := 0) (r₂ := 0) (d₁ := true) (d₂ := true)
    (by rw [duties_sd0]; exact Finset.mem_singleton_self _) (by rw [duties_rv0]; exact Finset.mem_singleton_self _)
    () () N rfl (amount_dma Wv c _ _) (amount_dma Wv (rt c) _ _) (O₃ c) rfl
    (by rw [tb_sd0]) (by rw [tb_rv0_rt]; exact land0 (rt c) fd _ _ (View.read_rep _ _))

/-- The second hop: slot 0 into the slot 1 on its right. -/
theorem send1 (fd : Buf (Elt F) (slot1.view.loc (rt c : Thread nD τ))) (W : Waits sig Unit) {hsc : slot1.view.ref.isScScratch = false}
    {hsrc : slot0.view.WordExact} {hdst : slot1.view.WordExact} {hsem : DmaTarget.Typed .vmem (.dma rv1) (.remote (rt c : Thread nD τ) slot1 (.dma sd1) hsc)}
    {α : Type} {k : PUnit.{1} → Prog (TpuEff nD τ sig (Elt F) Λ₀ .tc) α} {Q : α → sProp 𝕄} :
    iprop(cellInv ER (Rd Wv) (κ (sdCell1 c)) (sdCell1 c) ∗ cellInv ER (Rd Wv) (κ (rvCell1 (rt c))) (rvCell1 (rt c))
        ∗ at0 c hL (Wv (lf c)) ∗ (slot1.view.loc (rt c : Thread nD τ) ↦[slot1.view.set]{fullShare} fd)
        ∗ owes c (O₃ c) W ∗ dutyTok ER (sdCell1 c) 0 true ∗ reached ER (sdCell1 c) 0
        ∗ dutyTok ER (rvCell1 (rt c)) 0 true ∗ reached ER (rvCell1 (rt c)) 0)
      ⊢ iprop(((cred (tallyAt (sdCell1 c) () N) ∗ owes c (tallyAt (rvCell2 (rt c)) () N + tallyAt (crCell (lf c)) () 1) W) -∗ wp frame (wpE defs₀ 𝒱₀ (c : Thread nD τ) none) Set.univ (k PUnit.unit) Q)
          -∗ wp frame (wpE defs₀ 𝒱₀ (c : Thread nD τ) none) Set.univ
              (.op (.enqueueDma slot0 (.remote (rt c : Thread nD τ) slot1 (.dma sd1) hsc) (.dma rv1) hsrc hdst hsem) k) Q) :=
  Rounds.wp_send_pointsTo 𝒱₀ ER (Rd Wv) (c : Thread nD τ) none (c' := (rt c : Thread nD τ)) (src := slot0) (dst := slot1)
    (sS := .dma sd1) (sem := .dma rv1) (q := hL) (fs := slot0.view.rep (Wv (lf c))) (fd := fd) (r₁ := 0) (r₂ := 0) (d₁ := true) (d₂ := true)
    (by rw [duties_sd1]; exact Finset.mem_singleton_self _) (by rw [duties_rv1]; exact Finset.mem_singleton_self _)
    () () N rfl (amount_dma Wv c _ _) (amount_dma Wv (rt c) _ _) (O₄ c) rfl
    (by rw [tb_sd1]) (by rw [tb_rv1_rt]; exact land1 (rt c) fd _ _ (View.read_rep _ _))

/-- The third hop: slot 1 into the slot 0 on its right. -/
theorem send2 (fd : Buf (Elt F) (slot0.view.loc (rt c : Thread nD τ))) (W : Waits sig Unit) {hsc : slot0.view.ref.isScScratch = false}
    {hsrc : slot1.view.WordExact} {hdst : slot0.view.WordExact} {hsem : DmaTarget.Typed .vmem (.dma rv2) (.remote (rt c : Thread nD τ) slot0 (.dma sd2) hsc)}
    {α : Type} {k : PUnit.{1} → Prog (TpuEff nD τ sig (Elt F) Λ₀ .tc) α} {Q : α → sProp 𝕄} :
    iprop(cellInv ER (Rd Wv) (κ (sdCell2 c)) (sdCell2 c) ∗ cellInv ER (Rd Wv) (κ (rvCell2 (rt c))) (rvCell2 (rt c))
        ∗ at1 c hL (Wv (lf (lf c))) ∗ (slot0.view.loc (rt c : Thread nD τ) ↦[slot0.view.set]{fullShare} fd)
        ∗ owes c (O₅ c) W ∗ dutyTok ER (sdCell2 c) 0 true ∗ reached ER (sdCell2 c) 0
        ∗ dutyTok ER (rvCell2 (rt c)) 0 true ∗ reached ER (rvCell2 (rt c)) 0)
      ⊢ iprop(((cred (tallyAt (sdCell2 c) () N) ∗ owes c 0 W) -∗ wp frame (wpE defs₀ 𝒱₀ (c : Thread nD τ) none) Set.univ (k PUnit.unit) Q)
          -∗ wp frame (wpE defs₀ 𝒱₀ (c : Thread nD τ) none) Set.univ
              (.op (.enqueueDma slot1 (.remote (rt c : Thread nD τ) slot0 (.dma sd2) hsc) (.dma rv2) hsrc hdst hsem) k) Q) :=
  Rounds.wp_send_pointsTo 𝒱₀ ER (Rd Wv) (c : Thread nD τ) none (c' := (rt c : Thread nD τ)) (src := slot1) (dst := slot0)
    (sS := .dma sd2) (sem := .dma rv2) (q := hL) (fs := slot1.view.rep (Wv (lf (lf c)))) (fd := fd) (r₁ := 0) (r₂ := 0) (d₁ := true) (d₂ := true)
    (by rw [duties_sd2]; exact Finset.mem_singleton_self _) (by rw [duties_rv2]; exact Finset.mem_singleton_self _)
    () () N rfl (amount_dma Wv c _ _) (amount_dma Wv (rt c) _ _) 0 (zero_add _).symm
    (by rw [tb_sd2]) (by rw [tb_rv2_rt]; exact land0 (rt c) fd _ _ (View.read_rep _ _))

end Sends

end Cert.KernelIdeal.Hand
end
-- ==== Proof.Body.lean ====
/-
  One device's run of the kernel body, at a symbolic device: the two barrier signals, the local copies of key and value
  groups, the three hops of weights around the ring, the four loops.
-/
module

public import proofs.«01_k».proof.Proof.Sends

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F] [Named F]

local notation "𝕄" => MT nD τ sig Unit (Elt F) ℕ UU ℕ

attribute [local sl_rounds 2000] tb_barR_lf tb_barL_rt tb_cr_lf tb_rv0_rt tb_rv1_rt tb_rv2_rt

attribute [local sl_rounds] rt_lf lf_rt tb_amount_bar tb_amount_cr amount_dma tb_barR tb_barL tb_cr tb_sd0 tb_sd1 tb_sd2 tb_rv0 tb_rv1 tb_rv2
  duties_bar duties_cr duties_sd0 duties_sd1 duties_sd2 duties_rv0 duties_rv1 duties_rv2
  expect_bar expect_cr tb_expect_sd0 tb_expect_sd1 tb_expect_sd2 tb_expect_rv0 tb_expect_rv1 tb_expect_rv2

/-! ## The run -/

variable (Wv : Dev nD → WT F) (κ : GSem nD τ sig → ℕ) (c : Dev nD)

/-- What the run starts from. -/
def bodyPre (fX : aX.view.ty.Contents (Elt F)) (fK : aK.view.ty.Contents (Elt F)) (fV : aV.view.ty.Contents (Elt F)) (W : Waits sig Unit) : sProp 𝕄 :=
  iprop(opened Wv κ c ∗ creds (F := F) c ∗ levAts L lv ∗ owes c (O₀ c) W
    ∗ (aX.view.loc (c : Thread nD τ) ↦[aX.view.set]{fullShare} fX) ∗ atW c fullShare (Wv c)
    ∗ (aK.view.loc (c : Thread nD τ) ↦[aK.view.set]{fullShare} fK) ∗ (aV.view.loc (c : Thread nD τ) ↦[aV.view.set]{fullShare} fV)
    ∗ (∃ f, aO.view.loc (c : Thread nD τ) ↦[aO.view.set]{fullShare} f)
    ∗ (∃ f, raw0 (F := F) c f) ∗ (∃ f, raw1 (F := F) c f)
    ∗ (∃ f, kS0.view.loc (c : Thread nD τ) ↦[kS0.view.set]{fullShare} f) ∗ (∃ f, kS1.view.loc (c : Thread nD τ) ↦[kS1.view.set]{fullShare} f)
    ∗ (∃ f, vS0.view.loc (c : Thread nD τ) ↦[vS0.view.set]{fullShare} f) ∗ (∃ f, vS1.view.loc (c : Thread nD τ) ↦[vS1.view.set]{fullShare} f)
    ∗ (∃ f, aM.view.loc (c : Thread nD τ) ↦[aM.view.set]{fullShare} f)
    ∗ semVal ((c : Thread nD τ), .dma (9 : DmaSem sig)) 0 ∗ semVal ((c : Thread nD τ), .dma (10 : DmaSem sig)) 0
    ∗ semVal ((c : Thread nD τ), .dma (11 : DmaSem sig)) 0 ∗ semVal ((c : Thread nD τ), .dma (12 : DmaSem sig)) 0)

/-- What it ends with. -/
def bodyPost (fX : aX.view.ty.Contents (Elt F)) (fK : aK.view.ty.Contents (Elt F)) (fV : aV.view.ty.Contents (Elt F)) : sProp 𝕄 :=
  iprop((∃ W, owes c 0 W)
    ∗ (aX.view.loc (c : Thread nD τ) ↦[aX.view.set]{fullShare} fX) ∗ atW c fullShare (Wv c)
    ∗ (aK.view.loc (c : Thread nD τ) ↦[aK.view.set]{fullShare} fK) ∗ (aV.view.loc (c : Thread nD τ) ↦[aV.view.set]{fullShare} fV)
    ∗ (aO.view.loc (c : Thread nD τ) ↦[aO.view.set]{fullShare}
        aO.view.rep (outOf (aX.view.read (Elt F) fX) Wv (aK.view.read (Elt F) fK) (aV.view.read (Elt F) fV) c))
    ∗ (∃ f, raw0 (F := F) c f) ∗ (∃ f, raw1 (F := F) c f)
    ∗ (∃ f, kS0.view.loc (c : Thread nD τ) ↦[kS0.view.set]{fullShare} f) ∗ (∃ f, kS1.view.loc (c : Thread nD τ) ↦[kS1.view.set]{fullShare} f)
    ∗ (∃ f, vS0.view.loc (c : Thread nD τ) ↦[vS0.view.set]{fullShare} f) ∗ (∃ f, vS1.view.loc (c : Thread nD τ) ↦[vS1.view.set]{fullShare} f)
    ∗ (∃ f, aM.view.loc (c : Thread nD τ) ↦[aM.view.set]{fullShare} f)
    ∗ semVal (barCell c) 0 ∗ semVal (crCell c) 0 ∗ semVal (sdCell0 c) 0 ∗ semVal (sdCell1 c) 0 ∗ semVal (sdCell2 c) 0
    ∗ semVal (rvCell0 c) 0 ∗ semVal (rvCell1 c) 0 ∗ semVal (rvCell2 c) 0
    ∗ semVal ((c : Thread nD τ), .dma (9 : DmaSem sig)) 0 ∗ semVal ((c : Thread nD τ), .dma (10 : DmaSem sig)) 0
    ∗ semVal ((c : Thread nD τ), .dma (11 : DmaSem sig)) 0 ∗ semVal ((c : Thread nD τ), .dma (12 : DmaSem sig)) 0)

/-- What the barrier's round hands over, taken apart. -/
theorem bar_open : (Idealize.SL.BI.sep iprop((∃ f, raw0 (F := F) (rt c) f) ∗ (∃ f, raw1 (F := F) (rt c) f) ∗ reached ER (rvCell0 (rt c)) 0
      ∗ reached ER (rvCell1 (rt c)) 0 ∗ reached ER (rvCell2 (rt c)) 0) (reached ER (crCell (lf c)) 0) : sProp 𝕄)
    ⊢ iprop(((∃ f, slot0.view.loc (rt c : Thread nD τ) ↦[slot0.view.set]{fullShare} f)
      ∗ (∃ f, slot1.view.loc (rt c : Thread nD τ) ↦[slot1.view.set]{fullShare} f) ∗ reached ER (rvCell0 (rt c)) 0 ∗ reached ER (rvCell1 (rt c)) 0
      ∗ reached ER (rvCell2 (rt c)) 0) ∗ reached ER (crCell (lf c)) 0) := .rfl

/-- The two halves of slot 0, back together. -/
theorem join0 (X : WT F) : iprop(at0 c hL X ∗ at0 c hR X)
    ⊢ (iprop(∃ f, raw0 (F := F) c f) : sProp 𝕄) := by
  refine (pointsTo_share (PosShare.mem_left_op_right fullShare)).2.trans ?_
  iintro H
  iexists _
  iexact H
/-- The two halves of slot 1, back together. -/
theorem join1 (X : WT F) : iprop(at1 c hL X ∗ at1 c hR X)
    ⊢ (iprop(∃ f, raw1 (F := F) c f) : sProp 𝕄) := by
  refine (pointsTo_share (PosShare.mem_left_op_right fullShare)).2.trans ?_
  iintro H
  iexists _
  iexact H
/-- The two halves of the staged weights, back together. -/
theorem joinW (X : WT F) : iprop(atW c hL X ∗ atW c hR X) ⊢ (atW c fullShare X : sProp 𝕄) :=
  (pointsTo_share (PosShare.mem_left_op_right fullShare)).2

theorem bodyRun (fX : aX.view.ty.Contents (Elt F)) (fK : aK.view.ty.Contents (Elt F)) (fV : aV.view.ty.Contents (Elt F)) (W : Waits sig Unit) :
    bodyPre Wv κ c fX fK fV W
      ⊢ wp frame (wpE defs₀ 𝒱₀ (c : Thread nD τ) none) Set.univ
          (cc0_body (F := F) aX (Memref.isWhole_whole _) aW (Memref.isWhole_whole _) aK (Memref.isWhole_whole _) aV (Memref.isWhole_whole _)
            aO (Memref.isWhole_whole _) aB (Memref.isWhole_whole _) aKs (Memref.isWhole_whole _) aVs (Memref.isWhole_whole _) aM (Memref.isWhole_whole _)
            cc0_scratch4 cc0_scratch5 cc0_scratch6 cc0_scratch7)
          (fun _ => bodyPost Wv c fX fK fV) := by
  have e1 := dev1_lf c
  have e2 := dev2_rt c
  have e3 := dev3_rt c
  have e4 := dev4_rt c
  have e5 := dev5_lf c
  have e6 := dev6_rt c
  have mb := mayWait (F := F) c (.reg barS) 1 (by decide) (O₂ c) (above_O₂ c)
  have mk3 := mayWait (F := F) c (.dma (9 : DmaSem sig)) 2 (by decide) (O₃ c) (above_O₃ c)
  have mk3' := mayWait (F := F) c (.dma (10 : DmaSem sig)) 2 (by decide) (O₃ c) (above_O₃ c)
  have ms3 := mayWait (F := F) c (.dma sd0) 2 (by decide) (O₃ c) (above_O₃ c)
  have mr3 := mayWait (F := F) c (.dma rv0) 2 (by decide) (O₃ c) (above_O₃ c)
  have mk4 := mayWait (F := F) c (.dma (11 : DmaSem sig)) 3 (by decide) (O₄ c) (above_O₄ c)
  have mk4' := mayWait (F := F) c (.dma (12 : DmaSem sig)) 3 (by decide) (O₄ c) (above_O₄ c)
  have ms4 := mayWait (F := F) c (.dma sd1) 3 (by decide) (O₄ c) (above_O₄ c)
  have mr4 := mayWait (F := F) c (.dma rv1) 3 (by decide) (O₄ c) (above_O₄ c)
  have mc5 := mayWait (F := F) c (.reg crS) 4 (by decide) (O₅ c) (above_O₅ c)
  unfold bodyPre opened invs toks creds O₀
  iintro ⟨⟨#⟨Ib, Ic, Is0, Is1, Is2, Ir0, Ir1, Ir2, Ibl, Ibr, Icl, Irr0, Irr1, Irr2⟩, Ab, Ac, As0, As1, As2, Ar0, Ar1, Ar2, #Rbl, #Rbr, #Rc, #Rs0, #Rs1,
    #Rs2, #Rr0, #Rr1, #Rr2, Tbl, Tbr, Tcl, Ts0, Ts1, Ts2, Tr0, Tr1, Tr2⟩, ⟨Cb, Cc, Cr0, Cr1, Cr2⟩, #Hlv, HO, HX, HW, HK, HV, ⟨%fO, HO4⟩,
    ⟨%f0, Hw0⟩, ⟨%f1, Hw1⟩, ⟨%g0, Hk0⟩, ⟨%g1, Hk1⟩, ⟨%h0, Hv0⟩, ⟨%h1, Hv1⟩, ⟨%fm, HM⟩, S9, S10, S11, S12⟩
  ihave HWs := (pointsTo_share (PosShare.mem_left_op_right fullShare)).1 $$ HW
  icases HWs with ⟨HWl, HWr⟩
  rw [cc0_body_eq_skeleton]
  unfold cc0_body_skel
  sl_exec
  ihave Hb := (bar_open (F := F) c) $$ Ab_pay1
  icases Hb with ⟨⟨⟨%q0, Hq0⟩, ⟨%q1, Hq1⟩, #Rrr0, #Rrr1, #Rrr2⟩, #Rcl⟩
  iapply (send0 Wv κ c q0) $$ [HWl Hq0 HO Ts0 Tr0]
  · isplitr; · iexact Is0
    isplitr; · iexact Irr0
    isplitl [HWl]; · iexact HWl
    isplitl [Hq0]; · iexact Hq0
    isplitl [HO]; · iexact HO
    isplitl [Ts0]; · iexact Ts0
    isplitr; · iexact Rs0
    isplitl [Tr0]; · iexact Tr0
    iexact Rrr0
  iintro ⟨Cs0, HO⟩
  sl_exec
  rename (aO.view.read (Elt F) _ = _) => H1
  ihave Hs0 := (pointsTo_share (PosShare.mem_left_op_right fullShare)).1 $$ Ar0_pay1
  icases Hs0 with ⟨Hs0l, Hs0r⟩
  iapply (send1 Wv κ c q1) $$ [Hs0l Hq1 HO Ts1 Tr1]
  · isplitr; · iexact Is1
    isplitr; · iexact Irr1
    isplitl [Hs0l]; · iexact Hs0l
    isplitl [Hq1]; · iexact Hq1
    isplitl [HO]; · iexact HO
    isplitl [Ts1]; · iexact Ts1
    isplitr; · iexact Rs1
    isplitl [Tr1]; · iexact Tr1
    iexact Rrr1
  iintro ⟨Cs1, HO⟩
  sl_exec
  rename (aO.view.read (Elt F) _ = _) => H2
  ihave Hs0 := (join0 (F := F) c (Wv (lf c))) $$ [As1_pay1 Hs0r]
  · isplitl [As1_pay1]; · iexact As1_pay1
    iexact Hs0r
  ihave Hs1 := (pointsTo_share (PosShare.mem_left_op_right fullShare)).1 $$ Ar1_pay1
  icases Hs1 with ⟨Hs1l, Hs1r⟩
  sl_exec
  iapply (send2 Wv κ c _) $$ [Hs1l Ac_pay1 HO Ts2 Tr2]
  · isplitr; · iexact Is2
    isplitr; · iexact Irr2
    isplitl [Hs1l]; · iexact Hs1l
    isplitl [Ac_pay1]; · iexact Ac_pay1
    isplitl [HO]; · iexact HO
    isplitl [Ts2]; · iexact Ts2
    isplitr; · iexact Rs2
    isplitl [Tr2]; · iexact Tr2
    iexact Rrr2
  iintro ⟨Cs2, HO⟩
  sl_exec
  rename (aO.view.read (Elt F) fL0 = _) => H3
  have hout : aO.view.read (Elt F) fL1 = outOf (aX.view.read (Elt F) fX) Wv (aK.view.read (Elt F) fK) (aV.view.read (Elt F) fV) c := by
    refine hL13.trans (hop_of (View.read_rep _ _) ((read_writes_last _ _ _ _).trans (read_grp (m := aK) fK _ (off2_lf3 c) _ _))
      (View.read_writes_full aM.view _ _ _ []) ((read_writes_last _ _ _ _).trans (read_grp (m := aV) fV _ (off2_lf3 c) _ _)) ?_ rfl)
    refine H3.trans (hop_of (View.read_rep _ _) ((read_writes_last _ _ _ _).trans (read_grp (m := aK) fK _ (off2_lf2 c) _ _))
      (View.read_writes_full aM.view _ _ _ []) ((read_writes_last _ _ _ _).trans (read_grp (m := aV) fV _ (off2_lf2 c) _ _)) ?_ rfl)
    refine H2.trans (hop_of (View.read_rep _ _) ((read_writes_last _ _ _ _).trans (read_grp (m := aK) fK _ (off2_lf c) _ _))
      (View.read_writes_full aM.view _ _ _ []) ((read_writes_last _ _ _ _).trans (read_grp (m := aV) fV _ (off2_lf c) _ _)) ?_ rfl)
    exact H1.trans (hop_of (View.read_rep _ _) ((read_writes_last _ _ _ _).trans (read_grp (m := aK) fK _ (k0_off1_eq c) _ _))
      (View.read_writes_full aM.view _ _ _ []) ((read_writes_last _ _ _ _).trans (read_grp (m := aV) fV _ (k0_off1_eq c) _ _))
      (View.read_writes_full aO.view _ _ _ []) rfl)
  ihave HO5 := (pointsTo_rep_of_read (c : Thread nD τ) aO fL1 fullShare _ hout) $$ HO4
  ihave HWf := (joinW (F := F) c (Wv c)) $$ [As0_pay1 HWr]
  · isplitl [As0_pay1]; · iexact As0_pay1
    iexact HWr
  ihave Hs1 := (join1 (F := F) c (Wv (lf (lf c)))) $$ [As2_pay1 Hs1r]
  · isplitl [As2_pay1]; · iexact As2_pay1
    iexact Hs1r
  rw [wp_ret]
  imod (close Wv _ (barCell c)) $$ [Ab] with Zb
  · isplitr; · iexact Ib
    iexact Ab
  imod (close Wv _ (crCell c)) $$ [Ac] with Zc
  · isplitr; · iexact Ic
    iexact Ac
  imod (close Wv _ (sdCell0 c)) $$ [As0] with Zs0
  · isplitr; · iexact Is0
    iexact As0
  imod (close Wv _ (sdCell1 c)) $$ [As1] with Zs1
  · isplitr; · iexact Is1
    iexact As1
  imod (close Wv _ (sdCell2 c)) $$ [As2] with Zs2
  · isplitr; · iexact Is2
    iexact As2
  imod (close Wv _ (rvCell0 c)) $$ [Ar0] with Zr0
  · isplitr; · iexact Ir0
    iexact Ar0
  imod (close Wv _ (rvCell1 c)) $$ [Ar1] with Zr1
  · isplitr; · iexact Ir1
    iexact Ar1
  imod (close Wv _ (rvCell2 c)) $$ [Ar2] with Zr2
  · isplitr; · iexact Ir2
    iexact Ar2
  imodintro
  unfold bodyPost
  isplitl [HO]; · iexists _; iexact HO
  isplitl [HX]; · iexact HX
  isplitl [HWf]; · iexact HWf
  isplitl [HK]; · iexact HK
  isplitl [HV]; · iexact HV
  isplitl [HO5]; · iexact HO5
  isplitl [Ar2_pay1]; · iexists _; iexact Ar2_pay1
  isplitl [Hs1]; · iexact Hs1
  isplitl [Hk0]; · iexists _; iexact Hk0
  isplitl [Hk1]; · iexists _; iexact Hk1
  isplitl [Hv0]; · iexists _; iexact Hv0
  isplitl [Hv1]; · iexists _; iexact Hv1
  isplitl [HM]; · iexists _; iexact HM
  isplitl [Zb]; · iexact Zb
  isplitl [Zc]; · iexact Zc
  isplitl [Zs0]; · iexact Zs0
  isplitl [Zs1]; · iexact Zs1
  isplitl [Zs2]; · iexact Zs2
  isplitl [Zr0]; · iexact Zr0
  isplitl [Zr1]; · iexact Zr1
  isplitl [Zr2]; · iexact Zr2
  isplitl [S9]; · iexact S9
  isplitl [S10]; · iexact S10
  isplitl [S11]; · iexact S11
  iexact S12

end Cert.KernelIdeal.Hand
end
-- ==== Proof.Region.lean ====
/-
  The kernel's region: what its arrays, scratch and semaphores hold when it is entered and when it is left, and that the
  body's run takes the one to the other.
-/
module

public import proofs.«01_k».proof.Proof.Body
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-! ## What the host hands the region -/

/-- Device `c`'s activations. -/
def Xm (c : Dev nD) : Vec F S1024x1024 .bf16 := V1 m c main_v6
/-- Device `c`'s pair of weights. -/
def Wm (c : Dev nD) : WT F := V1 m c main_v42
/-- The keys of device `c`'s batch. -/
def Km (c : Dev nD) : S32x1024x128.Idx → Elt F .bf16 := V1 m c main_v22
/-- The values of device `c`'s batch. -/
def Vm (c : Dev nD) : S32x1024x128.Idx → Elt F .bf16 := V1 m c main_v38
/-- Device `c`'s result. -/
def Om (c : Dev nD) : Vec F S1024x1024 .f32 := outOf (Xm m c) (Wm m) (Km m c) (Vm m c) c

/-- What the region leaves in its buffers: the result in its output, every other buffer as it was. -/
def outs : Outs (F := F) := fun _ r c =>
  Function.update (V1 m c) (Proc.devRef .tc main_v43) (Om m c) (Proc.devRef .tc r)

theorem outs_v43 (n : ℕ) (c : Dev nD) : outs m n main_v43 c = Om m c := Function.update_self ..
theorem outs_v22 (n : ℕ) (c : Dev nD) : outs m n main_v22 c = V1 m c main_v22 :=
  Function.update_of_ne (StableHlo.devRef_ne_of_ne (by decide)) ..
theorem outs_v38 (n : ℕ) (c : Dev nD) : outs m n main_v38 c = V1 m c main_v38 :=
  Function.update_of_ne (StableHlo.devRef_ne_of_ne (by decide)) ..

theorem V2_v43 (c : Dev nD) : V2 m (outs m) c main_v43 = Om m c := by
  unfold V2
  rw [Function.update_of_ne (StableHlo.devRef_ne_of_ne (by decide)), Function.update_of_ne (StableHlo.devRef_ne_of_ne (by decide)),
    Function.update_self, outs_v43]
theorem V2_v22 (c : Dev nD) : V2 m (outs m) c main_v22 = V1 m c main_v22 := by
  unfold V2
  rw [Function.update_of_ne (StableHlo.devRef_ne_of_ne (by decide)), Function.update_self, outs_v22]
theorem V2_v38 (c : Dev nD) : V2 m (outs m) c main_v38 = V1 m c main_v38 := by
  unfold V2
  rw [Function.update_self, outs_v38]

/-! ## Scratch buffers in two halves -/

section Halves

variable {ℓ : Loc nD τ sig} {I J : Finset (Idx ℓ)}

/-- A buffer at some contents is its two halves, each at some contents. -/
theorem halve (hd : Disjoint I J) (hu : I ∪ J = Finset.univ) :
    (iprop(∃ f, ℓ ↦{fullShare} f) : sProp 𝕄) ⊢ iprop((∃ f, ℓ ↦[I]{fullShare} f) ∗ (∃ f, ℓ ↦[J]{fullShare} f)) := by
  iintro ⟨%f, H⟩
  ihave H' := (show (ℓ ↦{fullShare} f : sProp 𝕄) ⊢ iprop((ℓ ↦[I]{fullShare} f) ∗ ℓ ↦[J]{fullShare} f) from by
    rw [← hu]; exact (pointsTo_union hd).1) $$ H
  icases H' with ⟨H1, H2⟩
  isplitl [H1]; · iexists f; iexact H1
  iexists f; iexact H2
/-- And back. -/
theorem unhalve (hd : Disjoint I J) (hu : I ∪ J = Finset.univ) :
    (iprop((∃ f, ℓ ↦[I]{fullShare} f) ∗ (∃ f, ℓ ↦[J]{fullShare} f)) : sProp 𝕄) ⊢ iprop(∃ f, ℓ ↦{fullShare} f) := by
  iintro ⟨⟨%f, H1⟩, ⟨%g, H2⟩⟩
  iexists (J.piecewise g f)
  ihave H := (pointsTo_join (f := f) (g := g) (q := fullShare) hd) $$ [H1 H2]
  · isplitl [H1] <;> iassumption
  rw [hu]
  iexact H

end Halves

theorem rectB_disj : Disjoint (Rect.unit (s := S2x2x1024x1024) ![0, 0, 0, 0] S1x2x1024x1024.size inb_S2x2x1024x1024_S1x2x1024x1024_0_0_0_0).set (Rect.unit (s := S2x2x1024x1024) ![1, 0, 0, 0] S1x2x1024x1024.size inb_S2x2x1024x1024_S1x2x1024x1024_1_0_0_0).set := by
  rw [Finset.disjoint_left]
  intro i h0 h1
  rw [Rect.mem_set_unit] at h0 h1
  exact absurd (lt_of_le_of_lt (h1 0).1 (h0 0).2) (by decide)
theorem rectB_cover : (Rect.unit (s := S2x2x1024x1024) ![0, 0, 0, 0] S1x2x1024x1024.size inb_S2x2x1024x1024_S1x2x1024x1024_0_0_0_0).set ∪ (Rect.unit (s := S2x2x1024x1024) ![1, 0, 0, 0] S1x2x1024x1024.size inb_S2x2x1024x1024_S1x2x1024x1024_1_0_0_0).set = Finset.univ := by
  rw [Finset.eq_univ_iff_forall]
  intro i
  rw [Finset.mem_union, Rect.mem_set_unit, Rect.mem_set_unit]
  have b0 : (i 0).val < 2 := (i 0).isLt
  have b1 : (i 1).val < 2 := (i 1).isLt
  have b2 : (i 2).val < 1024 := (i 2).isLt
  have b3 : (i 3).val < 1024 := (i 3).isLt
  by_cases h : (i 0).val = 0
  · left; intro a
    match a with
    | 0 => exact ⟨Nat.zero_le _, by show (i 0).val < 0 + 1; omega⟩
    | 1 => exact ⟨Nat.zero_le _, by show (i 1).val < 0 + 2; omega⟩
    | 2 => exact ⟨Nat.zero_le _, by show (i 2).val < 0 + 1024; omega⟩
    | 3 => exact ⟨Nat.zero_le _, by show (i 3).val < 0 + 1024; omega⟩
  · right; intro a
    match a with
    | 0 => exact ⟨by show 1 ≤ (i 0).val; omega, by show (i 0).val < 1 + 1; omega⟩
    | 1 => exact ⟨Nat.zero_le _, by show (i 1).val < 0 + 2; omega⟩
    | 2 => exact ⟨Nat.zero_le _, by show (i 2).val < 0 + 1024; omega⟩
    | 3 => exact ⟨Nat.zero_le _, by show (i 3).val < 0 + 1024; omega⟩
theorem rectH_disj : Disjoint (Rect.unit (s := S2x8x1024x128) ![0, 0, 0, 0] S1x8x1024x128.size inb_S2x8x1024x128_S1x8x1024x128_0_0_0_0).set (Rect.unit (s := S2x8x1024x128) ![1, 0, 0, 0] S1x8x1024x128.size inb_S2x8x1024x128_S1x8x1024x128_1_0_0_0).set := by
  rw [Finset.disjoint_left]
  intro i h0 h1
  rw [Rect.mem_set_unit] at h0 h1
  exact absurd (lt_of_le_of_lt (h1 0).1 (h0 0).2) (by decide)
theorem rectH_cover : (Rect.unit (s := S2x8x1024x128) ![0, 0, 0, 0] S1x8x1024x128.size inb_S2x8x1024x128_S1x8x1024x128_0_0_0_0).set ∪ (Rect.unit (s := S2x8x1024x128) ![1, 0, 0, 0] S1x8x1024x128.size inb_S2x8x1024x128_S1x8x1024x128_1_0_0_0).set = Finset.univ := by
  rw [Finset.eq_univ_iff_forall]
  intro i
  rw [Finset.mem_union, Rect.mem_set_unit, Rect.mem_set_unit]
  have b0 : (i 0).val < 2 := (i 0).isLt
  have b1 : (i 1).val < 8 := (i 1).isLt
  have b2 : (i 2).val < 1024 := (i 2).isLt
  have b3 : (i 3).val < 128 := (i 3).isLt
  by_cases h : (i 0).val = 0
  · left; intro a
    match a with
    | 0 => exact ⟨Nat.zero_le _, by show (i 0).val < 0 + 1; omega⟩
    | 1 => exact ⟨Nat.zero_le _, by show (i 1).val < 0 + 8; omega⟩
    | 2 => exact ⟨Nat.zero_le _, by show (i 2).val < 0 + 1024; omega⟩
    | 3 => exact ⟨Nat.zero_le _, by show (i 3).val < 0 + 128; omega⟩
  · right; intro a
    match a with
    | 0 => exact ⟨by show 1 ≤ (i 0).val; omega, by show (i 0).val < 1 + 1; omega⟩
    | 1 => exact ⟨Nat.zero_le _, by show (i 1).val < 0 + 8; omega⟩
    | 2 => exact ⟨Nat.zero_le _, by show (i 2).val < 0 + 1024; omega⟩
    | 3 => exact ⟨Nat.zero_le _, by show (i 3).val < 0 + 128; omega⟩
theorem slot_set0 : slot0.view.set = (Rect.unit (s := S2x2x1024x1024) ![0, 0, 0, 0] S1x2x1024x1024.size inb_S2x2x1024x1024_S1x2x1024x1024_0_0_0_0).set :=
  (View.set_reshape _ _).trans (View.set_slice_whole cc0_scratch0 _)
theorem slot_set1 : slot1.view.set = (Rect.unit (s := S2x2x1024x1024) ![1, 0, 0, 0] S1x2x1024x1024.size inb_S2x2x1024x1024_S1x2x1024x1024_1_0_0_0).set :=
  (View.set_reshape _ _).trans (View.set_slice_whole cc0_scratch0 _)
theorem kS_set0 : kS0.view.set = (Rect.unit (s := S2x8x1024x128) ![0, 0, 0, 0] S1x8x1024x128.size inb_S2x8x1024x128_S1x8x1024x128_0_0_0_0).set :=
  (View.set_reshape _ _).trans (View.set_slice_whole cc0_scratch1 _)
theorem kS_set1 : kS1.view.set = (Rect.unit (s := S2x8x1024x128) ![1, 0, 0, 0] S1x8x1024x128.size inb_S2x8x1024x128_S1x8x1024x128_1_0_0_0).set :=
  (View.set_reshape _ _).trans (View.set_slice_whole cc0_scratch1 _)
theorem vS_set0 : vS0.view.set = (Rect.unit (s := S2x8x1024x128) ![0, 0, 0, 0] S1x8x1024x128.size inb_S2x8x1024x128_S1x8x1024x128_0_0_0_0).set :=
  (View.set_reshape _ _).trans (View.set_slice_whole cc0_scratch2 _)
theorem vS_set1 : vS1.view.set = (Rect.unit (s := S2x8x1024x128) ![1, 0, 0, 0] S1x8x1024x128.size inb_S2x8x1024x128_S1x8x1024x128_1_0_0_0).set :=
  (View.set_reshape _ _).trans (View.set_slice_whole cc0_scratch2 _)
theorem slot_disj : Disjoint slot0.view.set slot1.view.set := (congrArg₂ Disjoint slot_set0 slot_set1).mpr rectB_disj
theorem slot_cover : slot0.view.set ∪ slot1.view.set = Finset.univ := (congrArg₂ (· ∪ ·) slot_set0 slot_set1).trans rectB_cover
theorem kS_disj : Disjoint kS0.view.set kS1.view.set := (congrArg₂ Disjoint kS_set0 kS_set1).mpr rectH_disj
theorem kS_cover : kS0.view.set ∪ kS1.view.set = Finset.univ := (congrArg₂ (· ∪ ·) kS_set0 kS_set1).trans rectH_cover
theorem vS_disj : Disjoint vS0.view.set vS1.view.set := (congrArg₂ Disjoint vS_set0 vS_set1).mpr rectH_disj
theorem vS_cover : vS0.view.set ∪ vS1.view.set = Finset.univ := (congrArg₂ (· ∪ ·) vS_set0 vS_set1).trans rectH_cover

/-! ## The proof data -/

/-- Device `c`'s buffer `b` whole at contents `f`. -/
abbrev ptw (c : Dev nD) (b : Ref sig .tc) (f : Buf (Elt F) ((c : Thread nD τ).loc b)) : sProp 𝕄 :=
  ((c : Thread nD τ).loc b) ↦{fullShare} f

/-- The scratch the body runs in, at any contents. -/
def scr (c : Dev nD) : sProp 𝕄 :=
  iprop((∃ f, ptw (F := F) c cc0_scratch0 f) ∗ (∃ f, ptw (F := F) c cc0_scratch1 f)
    ∗ (∃ f, ptw (F := F) c cc0_scratch2 f) ∗ (∃ f, ptw (F := F) c cc0_scratch3 f))

/-- The counters of the local copies' semaphores at zero. -/
def kvSems (c : Dev nD) : sProp 𝕄 :=
  iprop(semVal ((c : Thread nD τ), .dma (9 : DmaSem sig)) 0 ∗ semVal ((c : Thread nD τ), .dma (10 : DmaSem sig)) 0
    ∗ semVal ((c : Thread nD τ), .dma (11 : DmaSem sig)) 0 ∗ semVal ((c : Thread nD τ), .dma (12 : DmaSem sig)) 0)

/-- The counters of the protocol's scoped semaphores at zero. -/
def ringSems (c : Dev nD) : sProp 𝕄 :=
  iprop(semVal (crCell c) 0 ∗ semVal (sdCell0 c) 0 ∗ semVal (sdCell1 c) 0 ∗ semVal (sdCell2 c) 0
    ∗ semVal (rvCell0 c) 0 ∗ semVal (rvCell1 c) 0 ∗ semVal (rvCell2 c) 0)

/-- What enters the region: the protocol opened, the credit to wait with, the levels, the local counters. -/
def Xk (c : Dev nD) : sProp 𝕄 := iprop((∃ κ, opened (Wm m) κ c) ∗ creds (F := F) c ∗ levAts L lv ∗ kvSems (F := F) c)
/-- What the region keeps for the program's end: the barrier's counter at zero. -/
def Yk (c : Dev nD) : sProp 𝕄 := semVal (barCell c) 0

/-- The keys and values, which the body reads where the host left them. -/
def kvBufs (c : Dev nD) : sProp 𝕄 := iprop(ptw c main_v22 (V1 m c main_v22) ∗ ptw c main_v38 (V1 m c main_v38))

/-- The region's arrays at entry, what the body leaves staged, and the state before and after its one point. -/
def dat (c : Dev nD) : Dat τ (Elt F) Unit ℕ UU ℕ cfg0 c where
  A w := V1 m c (Proc.devRef .tc (Pipeline.arrRef spec0 w))
  after := fun
    | 0 => fun _ => Xm m c
    | 1 => fun _ => Wm m c
    | 2 => fun _ => Om m c
    | ⟨_ + 3, h⟩ => absurd h (Nat.not_lt.2 (Nat.le_add_left _ _))
  Φ t := if t.val = 0 then iprop(Xk m c ∗ kvBufs m c ∗ scr (F := F) c ∗ ∃ r, prngReg c r)
    else iprop(Yk (F := F) c ∗ ringSems (F := F) c ∗ kvSems (F := F) c ∗ kvBufs m c ∗ scr (F := F) c ∗ ∃ r, prngReg c r)
  q _ := fullShare
  owed t := if t.val = 0 then O₀ c else 0

/-- The family of proof data over the program's one region. -/
def pdats : (p : Fin 1) → (c : Dev nD) → Dat τ (Elt F) Unit ℕ UU ℕ (Pipeline.pin (pcfgs (F := F)) adm p) c
  | 0 => dat m

theorem owed_first (c : Dev nD) : (dat m c).owed t0_0.castSucc = O₀ c := by
  show (if (t0_0.castSucc : Fin (cfg0.N + 1)).val = 0 then O₀ c else 0) = O₀ c; exact if_pos rfl
theorem owed_last (c : Dev nD) : (dat m c).owed t0_0.succ = 0 := by
  show (if (t0_0.succ : Fin (cfg0.N + 1)).val = 0 then O₀ c else 0) = 0; exact if_neg (by decide)

/-- The debt before a point, from the core's. -/
theorem owes_in (c : Dev nD) (t : Fin (cfg0.N + 1)) (O : CellTallies nD τ sig Unit) (h : (dat m c).owed t = O) (W : Waits sig Unit) :
    (owes (c : Thread nD τ) O W : sProp 𝕄) ⊢ ((dat m c).owesAt () t : sProp 𝕄) := by
  subst h
  iintro H
  unfold Dat.owesAt Pipeline.owesWithin Dat.bound
  iexists W
  isplitr
  · ipureintro; exact fun _ _ => Or.inl trivial
  · iexact H
/-- The core's debt, from that before a point. -/
theorem owes_out (c : Dev nD) (t : Fin (cfg0.N + 1)) (O : CellTallies nD τ sig Unit) (h : (dat m c).owed t = O) :
    ((dat m c).owesAt () t : sProp 𝕄) ⊢ iprop(∃ W, owes (c : Thread nD τ) O W) := by
  subst h
  unfold Dat.owesAt Pipeline.owesWithin
  iintro ⟨%W, -, H⟩
  iexists W
  iexact H

theorem before_0 (c : Dev nD) (d) : (dat m c).before 0 t0_0 d = Xm m c := by
  rw [(dat m c).before_fetched 0 t0_0 (fetch0_0 _) d]
  funext j
  show V1 m c main_v6 (((cfg0.win 0).rect t0_0).emb j) = V1 m c main_v6 j
  congr 1
  funext a
  apply Fin.ext
  rw [Pipeline.Window.rect_emb_val_of_index_zero _ _ _ rfl]
theorem before_1 (c : Dev nD) (d) : (dat m c).before 1 t0_0 d = Wm m c := by
  rw [(dat m c).before_fetched 1 t0_0 (fetch0_1 _) d]
  funext j
  show V1 m c main_v42 (((cfg0.win 1).rect t0_0).emb j) = V1 m c main_v42 j
  congr 1
  funext a
  apply Fin.ext
  rw [Pipeline.Window.rect_emb_val_of_index_zero _ _ _ rfl]

/-- The result's array ends at the device's result. -/
theorem arr_2 (c : Dev nD) : (dat m c).arrAt 2 cfg0.N = Om m c :=
  (dat m c).arrAt_eq_of_after_last 2 t0_0 (by decide +kernel) _ fun j => rfl

end Cert.KernelIdeal.Hand
end
-- ==== Proof.Obligation.lean ====
/-
  The region's record: the body meets its obligation, the protocol's scoped cells are opened on entry and given back at
  zero on leaving.
-/
module

public import proofs.«01_k».proof.Proof.Region
public import Idealize.ShloMosaic.Lib.Pipeline.TableIdle

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-! ## The body's run, over the region's own state -/

/-- The scratch taken apart into the pieces the body names. -/
theorem scr_open (c : Dev nD) : (scr (F := F) c : sProp 𝕄)
    ⊢ iprop((∃ f, raw0 (F := F) c f) ∗ (∃ f, raw1 (F := F) c f)
    ∗ (∃ f, kS0.view.loc (c : Thread nD τ) ↦[kS0.view.set]{fullShare} f) ∗ (∃ f, kS1.view.loc (c : Thread nD τ) ↦[kS1.view.set]{fullShare} f)
    ∗ (∃ f, vS0.view.loc (c : Thread nD τ) ↦[vS0.view.set]{fullShare} f) ∗ (∃ f, vS1.view.loc (c : Thread nD τ) ↦[vS1.view.set]{fullShare} f)
    ∗ (∃ f, aM.view.loc (c : Thread nD τ) ↦[aM.view.set]{fullShare} f)) := by
  unfold scr
  iintro ⟨Hb, Hk, Hv, Hm⟩
  ihave Hb' := (halve (F := F) (ℓ := slot0.view.loc (c : Thread nD τ)) slot_disj slot_cover) $$ Hb
  icases Hb' with ⟨Hb0, Hb1⟩
  ihave Hk' := (halve (F := F) (ℓ := kS0.view.loc (c : Thread nD τ)) kS_disj kS_cover) $$ Hk
  icases Hk' with ⟨Hk0, Hk1⟩
  ihave Hv' := (halve (F := F) (ℓ := vS0.view.loc (c : Thread nD τ)) vS_disj vS_cover) $$ Hv
  icases Hv' with ⟨Hv0, Hv1⟩
  isplitl [Hb0]; · iexact Hb0
  isplitl [Hb1]; · iexact Hb1
  isplitl [Hk0]; · iexact Hk0
  isplitl [Hk1]; · iexact Hk1
  isplitl [Hv0]; · iexact Hv0
  isplitl [Hv1]; · iexact Hv1
  rw [show aM.view.set = Finset.univ from View.set_whole _]
  iexact Hm
/-- And put together again. -/
theorem scr_close (c : Dev nD) : (iprop((∃ f, raw0 (F := F) c f) ∗ (∃ f, raw1 (F := F) c f)
    ∗ (∃ f, kS0.view.loc (c : Thread nD τ) ↦[kS0.view.set]{fullShare} f) ∗ (∃ f, kS1.view.loc (c : Thread nD τ) ↦[kS1.view.set]{fullShare} f)
    ∗ (∃ f, vS0.view.loc (c : Thread nD τ) ↦[vS0.view.set]{fullShare} f) ∗ (∃ f, vS1.view.loc (c : Thread nD τ) ↦[vS1.view.set]{fullShare} f)
    ∗ (∃ f, aM.view.loc (c : Thread nD τ) ↦[aM.view.set]{fullShare} f)) : sProp 𝕄) ⊢ scr (F := F) c := by
  unfold scr
  rw [show aM.view.set = Finset.univ from View.set_whole _]
  iintro ⟨Hb0, Hb1, Hk0, Hk1, Hv0, Hv1, Hm⟩
  ihave Hb := (unhalve (F := F) (ℓ := slot0.view.loc (c : Thread nD τ)) slot_disj slot_cover) $$ [Hb0 Hb1]
  · isplitl [Hb0] <;> iassumption
  ihave Hk := (unhalve (F := F) (ℓ := kS0.view.loc (c : Thread nD τ)) kS_disj kS_cover) $$ [Hk0 Hk1]
  · isplitl [Hk0] <;> iassumption
  ihave Hv := (unhalve (F := F) (ℓ := vS0.view.loc (c : Thread nD τ)) vS_disj vS_cover) $$ [Hv0 Hv1]
  · isplitl [Hv0] <;> iassumption
  isplitl [Hb]; · iexact Hb
  isplitl [Hk]; · iexact Hk
  isplitl [Hv]; · iexact Hv
  iexact Hm

/-- A whole buffer through its memref. -/
theorem ptw_K (c : Dev nD) (f : aK.view.ty.Contents (Elt F)) :
    (aK.view.loc (c : Thread nD τ) ↦[aK.view.set]{fullShare} f : sProp 𝕄) = ptw c main_v22 f := by
  rw [show aK.view.set = Finset.univ from View.set_whole _]
theorem ptw_V (c : Dev nD) (f : aV.view.ty.Contents (Elt F)) :
    (aV.view.loc (c : Thread nD τ) ↦[aV.view.set]{fullShare} f : sProp 𝕄) = ptw c main_v38 f := by
  rw [show aV.view.set = Finset.univ from View.set_whole _]

/-- What the body finds and leaves in the staged buffers. -/
theorem own_X (c : Dev nD) : (owns (c : Thread nD τ) aX fullShare (Xm m c) : sProp 𝕄)
    = (aX.view.loc (c : Thread nD τ) ↦[aX.view.set]{fullShare} aX.view.rep (Xm m c)) := owns_eq_rep _ _ _ _
theorem own_W (c : Dev nD) : (owns (c : Thread nD τ) aW fullShare (Wm m c) : sProp 𝕄) = atW c fullShare (Wm m c) := owns_eq_rep _ _ _ _
theorem own_O (c : Dev nD) (Y : Vec F S1024x1024 .f32) : (owns (c : Thread nD τ) aO fullShare Y : sProp 𝕄)
    = (aO.view.loc (c : Thread nD τ) ↦[aO.view.set]{fullShare} aO.view.rep Y) := owns_eq_rep _ _ _ _

theorem out_eq (c : Dev nD) :
    outOf (aX.view.read (Elt F) (aX.view.rep (Xm m c))) (Wm m) (aK.view.read (Elt F) (V1 m c main_v22)) (aV.view.read (Elt F) (V1 m c main_v38)) c
      = Om m c := by
  rw [View.read_rep]; rfl

/-- The region's state before its point. -/
def before (c : Dev nD) : sProp 𝕄 := iprop(Xk m c ∗ kvBufs m c ∗ scr (F := F) c ∗ ∃ r, prngReg c r)
/-- The region's state after it. -/
def later (c : Dev nD) : sProp 𝕄 :=
  iprop(Yk (F := F) c ∗ ringSems (F := F) c ∗ kvSems (F := F) c ∗ kvBufs m c ∗ scr (F := F) c ∗ ∃ r, prngReg c r)
/-- What the pipeline hands the body beside it. -/
def given (c : Dev nD) : sProp 𝕄 :=
  iprop((∃ W, owes (c : Thread nD τ) (O₀ c) W) ∗ owns (c : Thread nD τ) aX fullShare (Xm m c) ∗ owns (c : Thread nD τ) aW fullShare (Wm m c)
    ∗ ∃ Y, owns (c : Thread nD τ) aO fullShare Y)
/-- What it takes back. -/
def taken (c : Dev nD) : sProp 𝕄 :=
  iprop((∃ W, owes (c : Thread nD τ) 0 W) ∗ owns (c : Thread nD τ) aX fullShare (Xm m c) ∗ owns (c : Thread nD τ) aW fullShare (Wm m c)
    ∗ owns (c : Thread nD τ) aO fullShare (Om m c))

/-- The region's state and the staged buffers are what the body's run starts from. -/
theorem run_in (c : Dev nD) : iprop(before m c ∗ given m c)
    ⊢ (iprop((∃ r, prngReg c r) ∗ ∃ κ W, bodyPre (Wm m) κ c (aX.view.rep (Xm m c)) (V1 m c main_v22) (V1 m c main_v38) W) : sProp 𝕄) := by
  unfold before given Xk kvBufs kvSems
  simp only [own_X, own_W, own_O]
  iintro ⟨⟨⟨⟨%κ, Hg⟩, Hcr, Hlv, S9, S10, S11, S12⟩, ⟨HK, HV⟩, Hscr, Hp⟩, ⟨%W, HO⟩, HX, HW, ⟨%Y, HO2⟩⟩
  ihave Hs := (scr_open (F := F) c) $$ Hscr
  icases Hs with ⟨Hb0, Hb1, Hk0, Hk1, Hv0, Hv1, Hm⟩
  isplitl [Hp]; · iexact Hp
  iexists κ
  iexists W
  unfold bodyPre
  rw [ptw_K, ptw_V]
  isplitl [Hg]; · iexact Hg
  isplitl [Hcr]; · iexact Hcr
  isplitl [Hlv]; · iexact Hlv
  isplitl [HO]; · iexact HO
  isplitl [HX]; · iexact HX
  isplitl [HW]; · iexact HW
  isplitl [HK]; · iexact HK
  isplitl [HV]; · iexact HV
  isplitl [HO2]; · iexists _; iexact HO2
  isplitl [Hb0]; · iexact Hb0
  isplitl [Hb1]; · iexact Hb1
  isplitl [Hk0]; · iexact Hk0
  isplitl [Hk1]; · iexact Hk1
  isplitl [Hv0]; · iexact Hv0
  isplitl [Hv1]; · iexact Hv1
  isplitl [Hm]; · iexact Hm
  isplitl [S9]; · iexact S9
  isplitl [S10]; · iexact S10
  isplitl [S11] <;> iassumption

/-- What the body's run ends with is the region's state and the staged buffers. -/
theorem run_out (c : Dev nD) :
    iprop((∃ r, prngReg c r) ∗ bodyPost (Wm m) c (aX.view.rep (Xm m c)) (V1 m c main_v22) (V1 m c main_v38))
    ⊢ (iprop(later m c ∗ taken m c) : sProp 𝕄) := by
  unfold bodyPost later taken Yk ringSems kvSems kvBufs
  rw [ptw_K, ptw_V, out_eq, own_X, own_W, own_O]
  iintro ⟨Hp, HO, HX, HW, HK, HV, HO2, Hb0, Hb1, Hk0, Hk1, Hv0, Hv1, Hm, Zb, Zc, Zs0, Zs1, Zs2, Zr0, Zr1, Zr2, S9, S10, S11, S12⟩
  ihave Hs := (scr_close (F := F) c) $$ [Hb0 Hb1 Hk0 Hk1 Hv0 Hv1 Hm]
  · isplitl [Hb0]; · iexact Hb0
    isplitl [Hb1]; · iexact Hb1
    isplitl [Hk0]; · iexact Hk0
    isplitl [Hk1]; · iexact Hk1
    isplitl [Hv0]; · iexact Hv0
    isplitl [Hv1] <;> iassumption
  isplitr [HO HX HW HO2]
  · isplitl [Zb]; · iexact Zb
    isplitl [Zc Zs0 Zs1 Zs2 Zr0 Zr1 Zr2]
    · isplitl [Zc]; · iexact Zc
      isplitl [Zs0]; · iexact Zs0
      isplitl [Zs1]; · iexact Zs1
      isplitl [Zs2]; · iexact Zs2
      isplitl [Zr0]; · iexact Zr0
      isplitl [Zr1] <;> iassumption
    isplitl [S9 S10 S11 S12]
    · isplitl [S9]; · iexact S9
      isplitl [S10]; · iexact S10
      isplitl [S11] <;> iassumption
    isplitl [HK HV]
    · isplitl [HK] <;> iassumption
    isplitl [Hs] <;> iassumption
  isplitl [HO]; · iexact HO
  isplitl [HX]; · iexact HX
  isplitl [HW] <;> iassumption

/-- The body takes the region from its first state to its last. -/
theorem run_point (c : Dev nD) : iprop(before m c ∗ given m c)
    ⊢ (wp frame (wpE defs₀ 𝒱₀ (c : Thread nD τ) none) Set.univ
          (cc0_body (F := F) aX (Memref.isWhole_whole _) aW (Memref.isWhole_whole _) aK (Memref.isWhole_whole _) aV (Memref.isWhole_whole _)
            aO (Memref.isWhole_whole _) aB (Memref.isWhole_whole _) aKs (Memref.isWhole_whole _) aVs (Memref.isWhole_whole _) aM (Memref.isWhole_whole _)
            cc0_scratch4 cc0_scratch5 cc0_scratch6 cc0_scratch7)
          (fun _ => iprop(later m c ∗ taken m c)) : sProp 𝕄) := by
  refine (run_in m c).trans ?_
  iintro ⟨Hp, ⟨%κ, %W, H⟩⟩
  iapply (wp_wand_r Idealize.ShloMosaic.frame _ Set.univ)
  isplitl [H]
  · iapply (bodyRun (Wm m) κ c (aX.view.rep (Xm m c)) (V1 m c main_v22) (V1 m c main_v38) W)
    iexact H
  iintro %_ Hpost
  iapply (run_out m c)
  isplitl [Hp] <;> iassumption

/-- What the pipeline gives at the region's point. -/
theorem given_intro (c : Dev nD) : iprop((dat m c).owesAt () t0_0.castSucc
      ∗ (∃ d, owns (c : Thread nD τ) aX fullShare ((dat m c).before 0 t0_0 d)) ∗ (∃ d, owns (c : Thread nD τ) aW fullShare ((dat m c).before 1 t0_0 d))
      ∗ (∃ d, owns (c : Thread nD τ) aO fullShare ((dat m c).before 2 t0_0 d))) ⊢ (given m c : sProp 𝕄) := by
  simp only [before_0, before_1]
  unfold given
  iintro ⟨HO, ⟨%d0, HX⟩, ⟨%d1, HW⟩, ⟨%d2, HO2⟩⟩
  isplitl [HO]; · iapply (owes_out m c _ _ (owed_first m c)); iexact HO
  isplitl [HX]; · iexact HX
  isplitl [HW]; · iexact HW
  iexists _; iexact HO2
/-- And what it wants back. -/
theorem taken_elim (c : Dev nD) : (taken m c : sProp 𝕄) ⊢ iprop((dat m c).owesAt () t0_0.succ
      ∗ owns (c : Thread nD τ) aX fullShare (Xm m c) ∗ owns (c : Thread nD τ) aW fullShare (Wm m c)
      ∗ owns (c : Thread nD τ) aO fullShare (Om m c)) := by
  unfold taken
  iintro ⟨⟨%W, HO⟩, HX, HW, HO2⟩
  isplitl [HO]; · iapply (owes_in m c t0_0.succ 0 (owed_last m c) W); iexact HO
  isplitl [HX]; · iexact HX
  isplitl [HW] <;> iassumption

/-- The body meets the obligation the pipeline puts on it. -/
theorem obligation (c : Dev nD) : BodyObligation (dat m c) defs₀ 𝒱₀ () Set.univ := fun t => by
  obtain rfl := fin_N0 t
  rw [bigSep_W0, bigSep_W0]
  have h : iprop(before m c ∗ given m c) ⊢ (wp frame (wpE defs₀ 𝒱₀ (c : Thread nD τ) none) Set.univ
          (cc0_body (F := F) aX (Memref.isWhole_whole _) aW (Memref.isWhole_whole _) aK (Memref.isWhole_whole _) aV (Memref.isWhole_whole _)
            aO (Memref.isWhole_whole _) aB (Memref.isWhole_whole _) aKs (Memref.isWhole_whole _) aVs (Memref.isWhole_whole _) aM (Memref.isWhole_whole _)
            cc0_scratch4 cc0_scratch5 cc0_scratch6 cc0_scratch7)
          (fun _ => iprop(later m c ∗ (dat m c).owesAt () t0_0.succ
            ∗ owns (c : Thread nD τ) aX fullShare (Xm m c) ∗ owns (c : Thread nD τ) aW fullShare (Wm m c)
            ∗ owns (c : Thread nD τ) aO fullShare (Om m c))) : sProp 𝕄) :=
    (run_point m c).trans (wp_mono _ _ _ fun _ => sep_mono_right (taken_elim m c))
  exact (sep_mono_right (given_intro m c)).trans h

end Cert.KernelIdeal.Hand
end
-- ==== Proof.Record.lean ====
/-
  The kernel's region as one step of the host program: what it is entered with, what it is left with.
-/
module

public import proofs.«01_k».proof.Proof.Obligation
public import Idealize.ShloMosaic.Lib.Pipeline.RegionTalk

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-! ## The kernel's own semaphores -/

/-- The kernel's own semaphores: the credit, three departures, three arrivals, four local. -/
def osem : Fin 11 → SemLoc sig :=
  ![.reg crS, .dma sd0, .dma sd1, .dma sd2, .dma rv0, .dma rv1, .dma rv2, .dma 9, .dma 10, .dma 11, .dma 12]

theorem osem_facts : Pipeline.OwnSemFacts spec0 osem := by decide

/-- Their counters, one by one. -/
theorem ownSems_eq (c : Dev nD) : (Pipeline.ownSems0 osem c : sProp 𝕄) = iprop(semVal (crCell c) 0 ∗ semVal (sdCell0 c) 0 ∗ semVal (sdCell1 c) 0
    ∗ semVal (sdCell2 c) 0 ∗ semVal (rvCell0 c) 0 ∗ semVal (rvCell1 c) 0 ∗ semVal (rvCell2 c) 0 ∗ kvSems (F := F) c) :=
  bigSep_univ_eq_bigSepL [(0 : Fin 11), 1, 2, 3, 4, 5, 6, 7, 8, 9, 10] (by decide) (by decide) (fun k : Fin 11 => (semVal ((c : Thread nD τ), osem k) 0 : sProp 𝕄))

/-! ## Opening the protocol -/

/-- What device `c` carries from launch to the region. -/
def Tk (c : Dev nD) : sProp 𝕄 := iprop((∃ κ, ghost (Wm m) κ c) ∗ creds (F := F) c)

/-- One cell opened: its counter goes in, the place in its round and the fact that it is open come out. -/
theorem open_one (κ : ℕ) (g : GSem nD τ sig) : iprop(cellInv ER (Rd (Wm m)) κ g ∗ openTok ER g ∗ semVal g 0)
    ⊢ (|={Set.univ}=> (atPos ER g 0 ∅ 0 ∗ reached ER g 0) : sProp 𝕄) :=
  Rounds.cell_open ER (Rd (Wm m)) (Set.mem_univ κ)

/-- The region's entry opens the seven cells of the kernel's own semaphores. -/
theorem enter (c : Dev nD) : iprop(Tk m c ∗ Pipeline.ownSems0 osem c ∗ levAts L lv) ⊢ (|={Set.univ}=> Xk m c : sProp 𝕄) := by
  rw [ownSems_eq]
  unfold Tk Xk
  iintro ⟨⟨⟨%κ, Hg⟩, Hcr⟩, ⟨Z0, Z1, Z2, Z3, Z4, Z5, Z6, Hkv⟩, Hlev⟩
  unfold ghost
  icases Hg with ⟨#HI, Hat, O0, O1, O2, O3, O4, O5, O6, #HrL, #HrR, Ht⟩
  ihave HI' := (show (invs (Wm m) κ c : sProp 𝕄) ⊢ invs (Wm m) κ c from .rfl) $$ HI
  unfold invs
  icases HI' with ⟨#Ib, #I0, #I1, #I2, #I3, #I4, #I5, #I6, -⟩
  imod (open_one m (κ (crCell c)) (crCell c)) $$ [O0 Z0] with ⟨A0, #R0⟩
  · isplitr; · iexact I0
    isplitl [O0] <;> iassumption
  imod (open_one m (κ (sdCell0 c)) (sdCell0 c)) $$ [O1 Z1] with ⟨A1, #R1⟩
  · isplitr; · iexact I1
    isplitl [O1] <;> iassumption
  imod (open_one m (κ (sdCell1 c)) (sdCell1 c)) $$ [O2 Z2] with ⟨A2, #R2⟩
  · isplitr; · iexact I2
    isplitl [O2] <;> iassumption
  imod (open_one m (κ (sdCell2 c)) (sdCell2 c)) $$ [O3 Z3] with ⟨A3, #R3⟩
  · isplitr; · iexact I3
    isplitl [O3] <;> iassumption
  imod (open_one m (κ (rvCell0 c)) (rvCell0 c)) $$ [O4 Z4] with ⟨A4, #R4⟩
  · isplitr; · iexact I4
    isplitl [O4] <;> iassumption
  imod (open_one m (κ (rvCell1 c)) (rvCell1 c)) $$ [O5 Z5] with ⟨A5, #R5⟩
  · isplitr; · iexact I5
    isplitl [O5] <;> iassumption
  imod (open_one m (κ (rvCell2 c)) (rvCell2 c)) $$ [O6 Z6] with ⟨A6, #R6⟩
  · isplitr; · iexact I6
    isplitl [O6] <;> iassumption
  imodintro
  isplitl [Hat Ht A0 A1 A2 A3 A4 A5 A6]
  · iexists κ
    unfold opened
    isplitr; · unfold invs; iexact HI
    isplitl [Hat]; · iexact Hat
    isplitl [A0]; · iexact A0
    isplitl [A1]; · iexact A1
    isplitl [A2]; · iexact A2
    isplitl [A3]; · iexact A3
    isplitl [A4]; · iexact A4
    isplitl [A5]; · iexact A5
    isplitl [A6]; · iexact A6
    isplitr; · iexact HrL
    isplitr; · iexact HrR
    isplitr; · iexact R0
    isplitr; · iexact R1
    isplitr; · iexact R2
    isplitr; · iexact R3
    isplitr; · iexact R4
    isplitr; · iexact R5
    isplitr; · iexact R6
    iexact Ht
  isplitl [Hcr]; · iexact Hcr
  isplitl [Hlev]; · iexact Hlev
  iexact Hkv

/-! ## The record -/

/-- The layout facts of the kernel's windows. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers the body addresses where the host left them. -/
def Hs : Finset (DevRef τ sig) := {Proc.devRef .tc main_v22, Proc.devRef .tc main_v38}
/-- The host's buffers that are no window's array. -/
def Sr : Finset (DevRef τ sig) := Pipeline.ucRefs τ sig \ Pipeline.arrRefs (τ := τ) spec0

theorem arr_sub : Pipeline.arrRefs (τ := τ) spec0 ⊆ Pipeline.ucRefs τ sig :=
  Pipeline.arrRefs_sub_ucRefs spec0 (by decide)
theorem arr_eq : Pipeline.arrRefs (τ := τ) spec0 = {Proc.devRef .tc main_v6, Proc.devRef .tc main_v42, Proc.devRef .tc main_v43} := by
  decide +kernel
theorem mem_Sr (r : Ref sig .tc) (hs : r.isScoped = false) (h6 : r ≠ main_v6) (h42 : r ≠ main_v42) (h43 : r ≠ main_v43) :
    (Proc.devRef .tc r : DevRef τ sig) ∈ Sr :=
  Finset.mem_sdiff.mpr ⟨Finset.mem_filter.mpr ⟨StableHlo.devRef_mem_tcRefs r, fun h => Bool.false_ne_true (hs.symm.trans h)⟩, by
    rw [arr_eq, Finset.mem_insert, Finset.mem_insert, Finset.mem_singleton]
    rintro (h | h | h)
    · exact StableHlo.devRef_ne_of_ne h6 h
    · exact StableHlo.devRef_ne_of_ne h42 h
    · exact StableHlo.devRef_ne_of_ne h43 h⟩
theorem Hs_sub : Hs ⊆ Sr := fun b hb => by
  unfold Hs at hb
  rw [Finset.mem_insert, Finset.mem_singleton] at hb
  rcases hb with rfl | rfl
  · exact mem_Sr main_v22 (by decide) (by decide) (by decide) (by decide)
  · exact mem_Sr main_v38 (by decide) (by decide) (by decide) (by decide)

theorem held_Hs (c : Dev nD) (W : Valuation τ sig (Elt F)) : (StableHlo.held (c : Thread nD τ) Hs W : sProp 𝕄)
    = iprop(ptw c main_v22 (W main_v22) ∗ ptw c main_v38 (W main_v38)) := by
  unfold StableHlo.held
  rw [bigSep_eq_bigSepL_of_eq [(Proc.devRef .tc main_v22 : DevRef τ sig), Proc.devRef .tc main_v38] (by decide) (by decide)]
  rfl

theorem rest_same (c : Dev nD) : ∀ b ∈ Sr \ Hs, V2 m (outs m) c b = V1 m c b := fun b hb => by
  obtain ⟨hS, hH⟩ := Finset.mem_sdiff.mp hb
  have h43 : b ≠ Proc.devRef .tc main_v43 := fun h => (Finset.mem_sdiff.mp hS).2 (by
    rw [arr_eq, h]; exact Finset.mem_insert_of_mem (Finset.mem_insert_of_mem (Finset.mem_singleton_self _)))
  have h22 : b ≠ Proc.devRef .tc main_v22 := fun h => hH (by rw [h]; exact Finset.mem_insert_self _ _)
  have h38 : b ≠ Proc.devRef .tc main_v38 := fun h => hH (by rw [h]; exact Finset.mem_insert_of_mem (Finset.mem_singleton_self _))
  unfold V2
  rw [Function.update_of_ne h38, Function.update_of_ne h22, Function.update_of_ne h43]

theorem region_in (c : Dev nD) : iprop(Pipeline.scopedRest (Pipeline.pin (pcfgs (F := F)) adm 0).spec c ∗ (∃ r, prngReg c r)
      ∗ StableHlo.held (c.tc : Thread nD τ) Hs (V1 m c) ∗ Xk m c) ⊢ (pdats m 0 c).Φ 0 := by
  rw [show (pdats m 0 c).Φ 0 = iprop(Xk m c ∗ kvBufs m c ∗ scr (F := F) c ∗ ∃ r, prngReg c r) from rfl, held_Hs,
    show (Pipeline.scopedRest (Pipeline.pin (pcfgs (F := F)) adm 0).spec c : sProp 𝕄) = scr (F := F) c from scopedRest0_eq c]
  unfold kvBufs
  iintro ⟨Hs, Hp, Hkv, HX⟩
  isplitl [HX]; · iexact HX
  isplitl [Hkv]; · iexact Hkv
  isplitl [Hs] <;> iassumption

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Hs (V2 m (outs m) c) ∗ Pipeline.ownSems0 osem c ∗ Yk (F := F) c) := by
  rw [show (pdats m 0 c).Φ (Fin.last _) = iprop(Yk (F := F) c ∗ ringSems (F := F) c ∗ kvSems (F := F) c ∗ kvBufs m c ∗ scr (F := F) c ∗ ∃ r, prngReg c r) from rfl,
    held_Hs, ownSems_eq, V2_v22, V2_v38,
    show (Pipeline.scopedRest (Pipeline.pin (pcfgs (F := F)) adm 0).spec c : sProp 𝕄) = scr (F := F) c from scopedRest0_eq c]
  unfold kvBufs ringSems
  iintro ⟨HY, ⟨Z0, Z1, Z2, Z3, Z4, Z5, Z6⟩, Hk, Hkv, Hs, Hp⟩
  isplitl [Hs]; · iexact Hs
  isplitl [Hp]; · iexact Hp
  isplitl [Hkv]; · iexact Hkv
  isplitr [HY]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6] <;> iassumption
  iexact HY

theorem region_owed (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · exact above_O₀ c g i h
  · exact absurd h (Nat.lt_irrefl 0)

theorem stage_level : ∀ (w : Fin 3) (s : Fin (spec0 w).nbuf), lvS (.dma ((spec0 w).sem s)) = 0 := by decide

theorem arr_start (c : Dev nD) (w : Fin 3) : (dat m c).arrAt w 0 = V1 m c (Proc.devRef .tc (Pipeline.arrRef spec0 w)) := rfl
theorem share_all (c : Dev nD) (w : Fin cfg0.W) : (dat m c).share w = fullShare := by
  show (if (cfg0.win w).isOut then fullShare else fullShare) = fullShare
  exact ite_self _
theorem V2_v6 (c : Dev nD) : V2 m (outs m) c main_v6 = V1 m c main_v6 := V2_of m (outs m) c main_v6 (by decide)
theorem V2_v42 (c : Dev nD) : V2 m (outs m) c main_v42 = V1 m c main_v42 := V2_of m (outs m) c main_v42 (by decide)
theorem arr_end0 (c : Dev nD) : (dat m c).arrAt 0 cfg0.N = V2 m (outs m) c main_v6 := by
  rw [V2_v6, (dat m c).arrAt_in 0 rfl]; rfl
theorem arr_end1 (c : Dev nD) : (dat m c).arrAt 1 cfg0.N = V2 m (outs m) c main_v42 := by
  rw [V2_v42, (dat m c).arrAt_in 1 rfl]; rfl
theorem arr_end2 (c : Dev nD) : (dat m c).arrAt 2 cfg0.N = V2 m (outs m) c main_v43 := by
  rw [V2_v43, arr_2]
theorem arr_end (c : Dev nD) (w : Fin 3) : (dat m c).arrAt w cfg0.N = V2 m (outs m) c (Proc.devRef .tc (Pipeline.arrRef spec0 w)) := by
  match w with
  | 0 => exact arr_end0 m c
  | 1 => exact arr_end1 m c
  | 2 => exact arr_end2 m c

set_option backward.isDefEq.respectTransparency.types false in
/-- The kernel's region as a step of the host program. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem osem_facts
    Hs Sr Hs_sub kitP rfl (fun c => (obligation m c).loose)
    (fun _ => 0) O₀ (fun c => (owed_first m c).trans (zero_add _).symm) (owed_last m) (fun _ => rfl)
    (share_all m)
    (V1 m) (V2 m (outs m)) (rest_same m)
    (Tk m) (Yk (F := F)) (Xk m) (Yk (F := F)) (enter m) (region_in m) (region_out m)
    (fun c => by iintro H; imodintro; iexact H)
    (fun _ => 0)
    ⟨fun c w s => by rw [L_tc]; exact Finset.mem_singleton_self _, fun c w s => le_of_eq (stage_level w s), region_owed m⟩
    (fun _ => iprop(emp))
    (arr_start m) (arr_end m)

/-- What rides beside the buffers before the region. -/
def rides (c : Dev nD) : sProp 𝕄 := iprop(Tk m c ∗ (∃ r, prngReg c r) ∗ ∃ W, owes (c : Thread nD τ) (O₀ c) W)
/-- And after it. -/
def left (c : Dev nD) : sProp 𝕄 := iprop(Yk (F := F) c ∗ (∃ r, prngReg c r) ∗ ∃ W, owes (c : Thread nD τ) (0 : CellTallies nD τ sig Unit) W)
/-- The rest states of the two host stretches. -/
def E : Fin 2 → Dev nD → sProp 𝕄 := ![rides m, left]

theorem reg0_pre (c : Dev nD) : iprop(StableHlo.held (c : Thread nD τ) (Pipeline.ucRefs τ sig) (V1 m c) ∗ rides m c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) Sr (V1 m c) ∗ emp) ∗ Tk m c ∗ ∃ Wd, owes (c : Thread nD τ) (0 + O₀ c) Wd)
  rw [zero_add, StableHlo.held_sub_split (c : Thread nD τ) arr_sub (V1 m c)]
  unfold rides
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg0_post (c : Dev nD) : (reg0 m).post c
    ⊢ iprop(StableHlo.held (c : Thread nD τ) (Pipeline.ucRefs τ sig) (V2 m (outs m) c) ∗ left (F := F) c) := by
  show iprop(StableHlo.held (c.tc : Thread nD τ) (Pipeline.arrRefs (τ := τ) spec0) (V2 m (outs m) c) ∗ (∃ r, prngReg c r)
    ∗ (StableHlo.held (c.tc : Thread nD τ) Sr (V2 m (outs m) c) ∗ emp) ∗ Yk (F := F) c ∗ ∃ Wd, owes (c : Thread nD τ) (0 : CellTallies nD τ sig Unit) Wd) ⊢ _
  rw [StableHlo.held_sub_split (c : Thread nD τ) arr_sub (V2 m (outs m) c)]
  unfold left
  iintro ⟨Ha, Hp, ⟨Hr, -⟩, HY, HO⟩
  isplitl [Ha Hr]
  · isplitl [Ha]; · iexact Ha
    iexact Hr
  isplitl [HY]; · iexact HY
  isplitl [Hp]; · iexact Hp
  iexact HO

end Cert.KernelIdeal.Hand
end
-- ==== Proof.Start.lean ====
/-
  The launch: the protocol's cells are made on every device, its tokens dealt, its credit counted.
-/
module

public import proofs.«01_k».proof.Proof.Record

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-! ## The cells and the tokens -/

/-- The seven semaphores of the protocol that belong to the kernel. -/
def ringSem : Fin 7 → SemLoc sig := ![.reg crS, .dma sd0, .dma sd1, .dma sd2, .dma rv0, .dma rv1, .dma rv2]
theorem ringSem_inj : Function.Injective ringSem := by decide
theorem ringSem_ne_bar : ∀ k : Fin 7, ringSem k ≠ .reg barS := by decide

/-- A device's barrier cell, over the devices. -/
def barEmb : Dev nD ↪ GSem nD τ sig := ⟨fun c => barCell c, fun _ _ h => congrArg (fun g : GSem nD τ sig => g.1.1) h⟩
/-- A device's seven other cells, over the devices. -/
def ringEmb : Dev nD × Fin 7 ↪ GSem nD τ sig :=
  ⟨fun x => ((x.1 : Thread nD τ), ringSem x.2), fun _ _ h =>
    Prod.ext (congrArg (fun g : GSem nD τ sig => g.1.1) h) (ringSem_inj (congrArg Prod.snd h))⟩
abbrev barCells : Finset (GSem nD τ sig) := Finset.univ.map barEmb
abbrev ringCells : Finset (GSem nD τ sig) := Finset.univ.map ringEmb

/-- The nine duties on a device's cells: two on its barrier, one on each other cell. -/
def dutySem : Fin 9 → SemLoc sig := ![.reg barS, .reg barS, .reg crS, .dma sd0, .dma sd1, .dma sd2, .dma rv0, .dma rv1, .dma rv2]
def dutyName : Fin 9 → Bool := ![true, false, true, true, true, true, true, true, true]
theorem duty_inj : Function.Injective (fun k : Fin 9 => (dutySem k, dutyName k)) := by decide
/-- Every duty of the schedule. -/
def allToks : Finset (GSem nD τ sig × ℕ × Bool) :=
  Finset.univ.map ⟨fun x : Dev nD × Fin 9 => (((x.1 : Thread nD τ), dutySem x.2), 0, dutyName x.2), fun _ _ h =>
    Prod.ext (congrArg (fun t : GSem nD τ sig × ℕ × Bool => t.1.1.1) h)
      (duty_inj (Prod.ext (congrArg (fun t : GSem nD τ sig × ℕ × Bool => t.1.2) h) (congrArg (fun t : GSem nD τ sig × ℕ × Bool => t.2.2) h)))⟩

theorem cells_apart : Disjoint (barCells : Finset (GSem nD τ sig)) ringCells := by
  rw [Finset.disjoint_left]
  intro g h₁ h₂
  obtain ⟨c, -, rfl⟩ := Finset.mem_map.mp h₁
  obtain ⟨x, -, h⟩ := Finset.mem_map.mp h₂
  exact ringSem_ne_bar x.2 (congrArg Prod.snd h)
theorem bar_mem (c : Dev nD) : barCell c ∈ (barCells ∪ ringCells : Finset (GSem nD τ sig)) :=
  Finset.mem_union_left _ (Finset.mem_map_of_mem barEmb (Finset.mem_univ c))
theorem ring_mem (c : Dev nD) (k : Fin 7) : ((c : Thread nD τ), ringSem k) ∈ (barCells ∪ ringCells : Finset (GSem nD τ sig)) :=
  Finset.mem_union_right _ (Finset.mem_map_of_mem ringEmb (Finset.mem_univ (c, k)))

/-! ## The launch element -/

/-- The protocol's part of it. -/
def seed : RA2 := launchOf barCells ringCells allToks
/-- The launch element: the pipeline's cells, the protocol's, no local counter. -/
def u₀ : UU :=
  (initOf (Pipeline.cells (Pipeline.pin (pcfgs (F := F)) adm) cellOf_inj) (Pipeline.launchToks (Pipeline.pin (pcfgs (F := F)) adm) cellOf_inj),
    (seed, (1 : Counters)))

/-- The protocol's part, handed to the devices: all of it to device 0. -/
def G (c : Dev nD) : sProp 𝕄 := if c = 0 then BI.own (ER (F := F) seed) else iprop(emp)
theorem G_all : bigSep Finset.univ (G (F := F)) = (BI.own (ER (F := F) seed) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem u₀_split : (ownU (u₀ (F := F)) : sProp 𝕄)
    ⊢ |={Set.univ}=> iprop(BI.own (EP (F := F) (initOf (Pipeline.cells (Pipeline.pin (pcfgs (F := F)) adm) cellOf_inj) (Pipeline.launchToks (Pipeline.pin (pcfgs (F := F)) adm) cellOf_inj)))
        ∗ bigSep Finset.univ (G (F := F))) := by
  unfold u₀
  rw [G_all]
  iintro Hu
  ihave H := (ownU_pair _ _) $$ Hu
  icases H with ⟨HP, HX⟩
  ihave H' := (own_pair_emb embR seed (1 : Counters)) $$ HX
  icases H' with ⟨HS, -⟩
  imodintro
  isplitl [HP]; · iexact HP
  iexact HS

/-! ## What every device may consult, and what is its own -/

/-- All the cells' invariants under one map of names, and that every barrier is open. -/
def records (κ : GSem nD τ sig → ℕ) : sProp 𝕄 :=
  iprop((bigSep (barCells ∪ ringCells) fun g => cellInv ER (Rd (Wm m)) (κ g) g) ∗ bigSep barCells fun g => reached ER g 0)
instance records_persistent (κ : GSem nD τ sig → ℕ) : BI.Persistent (records m κ) := by unfold records; infer_instance

theorem inv_at (κ : GSem nD τ sig → ℕ) {g : GSem nD τ sig} (hg : g ∈ (barCells ∪ ringCells : Finset (GSem nD τ sig))) :
    (records m κ : sProp 𝕄) ⊢ cellInv ER (Rd (Wm m)) (κ g) g := by
  unfold records
  exact (BI.Entails.trans BI.sep_and and_elimL).trans (bigSep_elim hg)
theorem open_at (κ : GSem nD τ sig → ℕ) (c : Dev nD) : (records m κ : sProp 𝕄) ⊢ reached ER (barCell c) 0 := by
  unfold records
  exact (BI.Entails.trans BI.sep_and and_elimR).trans (bigSep_elim (i := barCell c) (Finset.mem_map_of_mem barEmb (Finset.mem_univ c)))

/-- The invariants one device opens. -/
theorem invs_at (κ : GSem nD τ sig → ℕ) (c : Dev nD) : (records m κ : sProp 𝕄) ⊢ invs (Wm m) κ c := by
  unfold invs
  iintro #H
  isplitr; · iapply (inv_at m κ (bar_mem c)); iexact H
  isplitr; · iapply (inv_at m κ (ring_mem c 0)); iexact H
  isplitr; · iapply (inv_at m κ (ring_mem c 1)); iexact H
  isplitr; · iapply (inv_at m κ (ring_mem c 2)); iexact H
  isplitr; · iapply (inv_at m κ (ring_mem c 3)); iexact H
  isplitr; · iapply (inv_at m κ (ring_mem c 4)); iexact H
  isplitr; · iapply (inv_at m κ (ring_mem c 5)); iexact H
  isplitr; · iapply (inv_at m κ (ring_mem c 6)); iexact H
  isplitr; · iapply (inv_at m κ (bar_mem (lf c))); iexact H
  isplitr; · iapply (inv_at m κ (bar_mem (rt c))); iexact H
  isplitr; · iapply (inv_at m κ (ring_mem (lf c) 0)); iexact H
  isplitr; · iapply (inv_at m κ (ring_mem (rt c) 4)); iexact H
  isplitr; · iapply (inv_at m κ (ring_mem (rt c) 5)); iexact H
  iapply (inv_at m κ (ring_mem (rt c) 6)); iexact H

/-- The rights of one device to open its seven cells. -/
def rights (c : Dev nD) : sProp 𝕄 :=
  iprop(openTok ER (crCell c) ∗ openTok ER (sdCell0 c) ∗ openTok ER (sdCell1 c) ∗ openTok ER (sdCell2 c) ∗ openTok ER (rvCell0 c) ∗ openTok ER (rvCell1 c) ∗ openTok ER (rvCell2 c))
/-- What stays with one device: its place on its barrier, the rights to open its cells, the tokens it pays with. -/
def own (c : Dev nD) : sProp 𝕄 := iprop(atPos ER (barCell c) 0 ∅ 0 ∗ rights (F := F) c ∗ toks (F := F) c)

theorem ghost_intro (κ : GSem nD τ sig → ℕ) (c : Dev nD) : iprop(records m κ ∗ own (F := F) c) ⊢ (iprop(∃ K, ghost (Wm m) K c) : sProp 𝕄) := by
  unfold own rights ghost
  iintro ⟨#H, Ha, ⟨O0, O1, O2, O3, O4, O5, O6⟩, Ht⟩
  iexists κ
  isplitr; · iapply (invs_at m κ c); iexact H
  isplitl [Ha]; · iexact Ha
  isplitl [O0]; · iexact O0
  isplitl [O1]; · iexact O1
  isplitl [O2]; · iexact O2
  isplitl [O3]; · iexact O3
  isplitl [O4]; · iexact O4
  isplitl [O5]; · iexact O5
  isplitl [O6]; · iexact O6
  isplitr; · iapply (open_at m κ (lf c)); iexact H
  isplitr; · iapply (open_at m κ (rt c)); iexact H
  iexact Ht

/-- The tokens of the duties on one device's own cells. -/
def mine (c : Dev nD) : sProp 𝕄 :=
  iprop(dutyTok ER (barCell c) 0 true ∗ dutyTok ER (barCell c) 0 false ∗ dutyTok ER (crCell c) 0 true
    ∗ dutyTok ER (sdCell0 c) 0 true ∗ dutyTok ER (sdCell1 c) 0 true ∗ dutyTok ER (sdCell2 c) 0 true
    ∗ dutyTok ER (rvCell0 c) 0 true ∗ dutyTok ER (rvCell1 c) 0 true ∗ dutyTok ER (rvCell2 c) 0 true)

theorem mine_all : bigSep allToks (fun x => (dutyTok ER x.1 x.2.1 x.2.2 : sProp 𝕄)) = bigSep Finset.univ fun c : Dev nD => mine (F := F) c := by
  unfold allToks; rw [bigSep_map, bigSep_univ_prod]
  refine bigSep_congr fun c _ => ?_
  exact bigSep_univ_eq_bigSepL [(0 : Fin 9), 1, 2, 3, 4, 5, 6, 7, 8] (by decide) (by decide)
    (fun k : Fin 9 => (dutyTok ER ((c : Thread nD τ), dutySem k) 0 (dutyName k) : sProp 𝕄))

theorem rights_all : bigSep ringCells (fun g => (openTok ER g : sProp 𝕄)) = bigSep Finset.univ fun c : Dev nD => rights (F := F) c := by
  rw [bigSep_map, bigSep_univ_prod]
  refine bigSep_congr fun c _ => ?_
  exact bigSep_univ_eq_bigSepL [(0 : Fin 7), 1, 2, 3, 4, 5, 6] (by decide) (by decide)
    (fun k : Fin 7 => (openTok ER ((c : Thread nD τ), ringSem k) : sProp 𝕄))

/-- The tokens go to the devices that pay: to a neighbour's left or right. -/
theorem deal : bigSep Finset.univ (mine (F := F)) = (bigSep Finset.univ (toks (F := F)) : sProp 𝕄) := by
  unfold mine toks
  simp only [bigSep_sep']
  rw [bigSep_univ_equiv ring.symm (fun c : Dev nD => (dutyTok ER (barCell c) 0 true : sProp 𝕄)),
    bigSep_univ_equiv ring (fun c : Dev nD => (dutyTok ER (barCell c) 0 false : sProp 𝕄)),
    bigSep_univ_equiv ring.symm (fun c : Dev nD => (dutyTok ER (crCell c) 0 true : sProp 𝕄)),
    bigSep_univ_equiv ring (fun c : Dev nD => (dutyTok ER (rvCell0 c) 0 true : sProp 𝕄)),
    bigSep_univ_equiv ring (fun c : Dev nD => (dutyTok ER (rvCell1 c) 0 true : sProp 𝕄)),
    bigSep_univ_equiv ring (fun c : Dev nD => (dutyTok ER (rvCell2 c) 0 true : sProp 𝕄))]
  rfl

/-! ## The credit -/

theorem tally_one (x c : Dev nD) (s s' : SemLoc sig) (k : ℕ) :
    (tallyAt ((x : Thread nD τ), s) () k : CellTallies nD τ sig Unit) ((c : Thread nD τ), s') () = if x = c ∧ s = s' then k else 0 := by
  rw [tallyAt_apply]
  by_cases h : x = c ∧ s = s'
  · rw [if_pos h, if_pos ⟨by rw [h.1, h.2], rfl⟩]
  · rw [if_neg h, if_neg fun hh => h ⟨(congrArg (fun g : GSem nD τ sig => g.1.1) hh.1).symm, (congrArg Prod.snd hh.1).symm⟩]

theorem owed_cell (d c : Dev nD) (s : SemLoc sig) : O₀ d ((c : Thread nD τ), s) () =
    (if rt d = c ∧ .dma rv2 = s then N else 0) + (if lf d = c ∧ .reg crS = s then 1 else 0) + (if rt d = c ∧ .dma rv1 = s then N else 0)
      + (if rt d = c ∧ .dma rv0 = s then N else 0) + (if rt d = c ∧ .reg barS = s then 1 else 0) + (if lf d = c ∧ .reg barS = s then 1 else 0) := by
  unfold O₀
  simp only [Pi.add_apply, Finsupp.add_apply, tally_one]

theorem sum_rt (c : Dev nD) (k : ℕ) : (∑ d : Dev nD, if rt d = c then k else 0) = k := by
  rw [Finset.sum_congr rfl fun d _ => if_congr (show rt d = c ↔ d = lf c from ⟨fun h => by rw [← h, lf_rt], fun h => by rw [h, rt_lf]⟩) rfl rfl,
    Finset.sum_ite_eq' Finset.univ (lf c) fun _ => k, if_pos (Finset.mem_univ _)]
theorem sum_lf (c : Dev nD) (k : ℕ) : (∑ d : Dev nD, if lf d = c then k else 0) = k := by
  rw [Finset.sum_congr rfl fun d _ => if_congr (show lf d = c ↔ d = rt c from ⟨fun h => by rw [← h, rt_lf], fun h => by rw [h, lf_rt]⟩) rfl rfl,
    Finset.sum_ite_eq' Finset.univ (rt c) fun _ => k, if_pos (Finset.mem_univ _)]

theorem credit_cell (c : Dev nD) (s : SemLoc sig) (k : ℕ) (h : ∑ d : Dev nD, O₀ d ((c : Thread nD τ), s) () = k) :
    tallyOn ((c : Thread nD τ), s) (launchCredit (Pipeline.owing O₀) 0 ((c : Thread nD τ), s)) = (tallyAt ((c : Thread nD τ), s) () k : CellTallies nD τ sig Unit) := by
  unfold tallyAt; refine congrArg _ (Finsupp.ext fun u => ?_); cases u
  rw [Pipeline.launchCredit_owing, Finsupp.single_eq_same, h]

theorem total_bar (c : Dev nD) : ∑ d : Dev nD, O₀ d (barCell c) () = 2 := by
  simp only [owed_cell, show (SemLoc.dma rv2 : SemLoc sig) ≠ .reg barS from by decide, show (SemLoc.reg crS : SemLoc sig) ≠ .reg barS from by decide,
    show (SemLoc.dma rv1 : SemLoc sig) ≠ .reg barS from by decide, show (SemLoc.dma rv0 : SemLoc sig) ≠ .reg barS from by decide, and_false, if_false, and_true,
    Nat.zero_add, Finset.sum_add_distrib, sum_rt, sum_lf]
theorem total_cr (c : Dev nD) : ∑ d : Dev nD, O₀ d (crCell c) () = 1 := by
  simp only [owed_cell, show (SemLoc.dma rv2 : SemLoc sig) ≠ .reg crS from by decide, show (SemLoc.reg barS : SemLoc sig) ≠ .reg crS from by decide,
    show (SemLoc.dma rv1 : SemLoc sig) ≠ .reg crS from by decide, show (SemLoc.dma rv0 : SemLoc sig) ≠ .reg crS from by decide, and_false, if_false, and_true,
    Nat.zero_add, Nat.add_zero, sum_lf]
theorem total_rv0 (c : Dev nD) : ∑ d : Dev nD, O₀ d (rvCell0 c) () = N := by
  simp only [owed_cell, show (SemLoc.dma rv1 : SemLoc sig) ≠ .dma rv0 from by decide, show (SemLoc.dma rv2 : SemLoc sig) ≠ .dma rv0 from by decide, show (SemLoc.reg crS : SemLoc sig) ≠ .dma rv0 from by decide, show (SemLoc.reg barS : SemLoc sig) ≠ .dma rv0 from by decide,
    and_false, if_false, and_true, Nat.zero_add, Nat.add_zero, sum_rt]
theorem total_rv1 (c : Dev nD) : ∑ d : Dev nD, O₀ d (rvCell1 c) () = N := by
  simp only [owed_cell, show (SemLoc.dma rv0 : SemLoc sig) ≠ .dma rv1 from by decide, show (SemLoc.dma rv2 : SemLoc sig) ≠ .dma rv1 from by decide, show (SemLoc.reg crS : SemLoc sig) ≠ .dma rv1 from by decide, show (SemLoc.reg barS : SemLoc sig) ≠ .dma rv1 from by decide,
    and_false, if_false, and_true, Nat.zero_add, Nat.add_zero, sum_rt]
theorem total_rv2 (c : Dev nD) : ∑ d : Dev nD, O₀ d (rvCell2 c) () = N := by
  simp only [owed_cell, show (SemLoc.dma rv0 : SemLoc sig) ≠ .dma rv2 from by decide, show (SemLoc.dma rv1 : SemLoc sig) ≠ .dma rv2 from by decide, show (SemLoc.reg crS : SemLoc sig) ≠ .dma rv2 from by decide, show (SemLoc.reg barS : SemLoc sig) ≠ .dma rv2 from by decide,
    and_false, if_false, and_true, Nat.zero_add, Nat.add_zero, sum_rt]

theorem credits (c : Dev nD) : (Pipeline.launchCred O₀ c : sProp 𝕄) ⊢ creds (F := F) c := by
  unfold Pipeline.launchCred creds
  rw [bigSep_univ_at _ (SemLoc.reg barS), credit_cell c _ 2 (total_bar c)]
  refine sep_mono_right ?_
  rw [BI.bigSep_erase (i := SemLoc.reg crS) (Finset.mem_erase.mpr ⟨by decide, Finset.mem_univ _⟩), credit_cell c _ 1 (total_cr c)]
  refine sep_mono_right ?_
  rw [BI.bigSep_erase (i := SemLoc.dma rv0) (by decide), credit_cell c _ N (total_rv0 c)]
  refine sep_mono_right ?_
  rw [BI.bigSep_erase (i := SemLoc.dma rv1) (by decide), credit_cell c _ N (total_rv1 c)]
  refine sep_mono_right ?_
  rw [← credit_cell c _ N (total_rv2 c)]
  exact bigSep_elim (by decide)

/-! ## The launch -/

theorem sems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What of a device's launch holdings is not the protocol's. -/
def bundle (c : Dev nD) : sProp 𝕄 :=
  iprop(StableHlo.held (c : Thread nD τ) (Pipeline.ucRefs τ sig) (V0 m c) ∗ creds (F := F) c ∗ owes (c : Thread nD τ) (O₀ c) ∅ ∗ ∃ r, prngReg c r)
/-- The state each device's program starts from. -/
abbrev T₀ (c : Dev nD) : sProp 𝕄 := iprop(StableHlo.held (c : Thread nD τ) (Pipeline.ucRefs τ sig) (V0 m c) ∗ rides m c)

theorem T₀_intro (κ : GSem nD τ sig → ℕ) (c : Dev nD) : iprop(records m κ ∗ (own (F := F) c ∗ bundle m c)) ⊢ (T₀ m c : sProp 𝕄) := by
  unfold bundle T₀ rides Tk
  iintro ⟨#HR, Hl, Hh, Hc, HO, Hp⟩
  isplitl [Hh]; · iexact Hh
  isplitl [Hl Hc]
  · isplitl [Hl]
    · iapply (ghost_intro m κ c)
      isplitr; · iexact HR
      iexact Hl
    iexact Hc
  isplitl [Hp]; · iexact Hp
  iexists ∅; iexact HO

/-- A family of pairs is a pair of families. -/
theorem unpair {Φ Ψ : Dev nD → sProp 𝕄} : bigSep Finset.univ (fun c => iprop(Φ c ∗ Ψ c)) ⊢ iprop(bigSep Finset.univ Φ ∗ bigSep Finset.univ Ψ) :=
  Entails.of_eq (bigSep_sep' _ _ _)
theorem pair {Φ Ψ : Dev nD → sProp 𝕄} : iprop(bigSep Finset.univ Φ ∗ bigSep Finset.univ Ψ) ⊢ bigSep Finset.univ (fun c => iprop(Φ c ∗ Ψ c)) :=
  Entails.of_eq (bigSep_sep' _ _ _).symm

/-- What the machine gives each device at launch. -/
def given0 (ρ : Dev nD → PrngReg) (c : Dev nD) : sProp 𝕄 :=
  iprop(unscopedBufs c (fun b => m ((c : Thread nD τ).loc b)) ∗ unscopedSems0 c
          ∗ owes (c : Thread nD τ) (O₀ c) ∅ ∗ Pipeline.launchCred O₀ c ∗ prngReg c (ρ c) ∗ G (F := F) c)

theorem given0_split (ρ : Dev nD → PrngReg) (c : Dev nD) : (given0 m ρ c : sProp 𝕄) ⊢ iprop(bundle m c ∗ semVal (barCell c) 0 ∗ G (F := F) c) := by
  unfold given0
  rw [show unscopedBufs c (fun b => m ((c : Thread nD τ).loc b)) = StableHlo.held (c : Thread nD τ) (Pipeline.ucRefs τ sig) (V0 m c)
      from Pipeline.unscopedBufs_held c (V0 m c), sems_eq]
  unfold bundle
  iintro ⟨Hh, Hs, HO, Hc, Hp, HG⟩
  ihave Hc' := (credits (F := F) c) $$ Hc
  isplitl [Hh Hc' HO Hp]
  · isplitl [Hh]; · iexact Hh
    isplitl [Hc']; · iexact Hc'
    isplitl [HO]; · iexact HO
    iexists (ρ c); iexact Hp
  isplitl [Hs] <;> iassumption

/-- From what the machine gives at launch, the state each device's program starts from. -/
theorem init (ρ : Dev nD → PrngReg) : iprop(bigSep Finset.univ (given0 m ρ) ∗ levAts L lv) ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (show (bigSep Finset.univ (given0 m ρ) : sProp 𝕄) ⊢ bigSep Finset.univ (fun c : Dev nD => iprop(bundle m c ∗ semVal (barCell c) 0 ∗ G (F := F) c))
    from bigSep_mono fun c _ => given0_split m ρ c) $$ H
  ihave H2 := unpair $$ H'; icases H2 with ⟨HB, H3⟩
  ihave H4 := unpair $$ H3; icases H4 with ⟨Hv, HG⟩
  ihave Hu := (Entails.of_eq (G_all (F := F))) $$ HG
  imod (Rounds.fund_launch ER (Rd (Wm m)) cells_apart (fun g _ h => h) allToks) $$ [Hv Hu] with ⟨%κ, -, #Hinv, #Hr, Hat, Hopen, Htok⟩
  · isplitl [Hv]
    · iapply hv $$ Hv
    · unfold seed; iexact Hu
  imodintro
  iapply (bigSep_with_persistent (R := records m κ) (Φ := fun c => iprop(own (F := F) c ∗ bundle m c)) fun c _ => T₀_intro m κ c)
  isplitr
  · unfold records
    isplitr; · iexact Hinv
    iexact Hr
  iapply pair
  isplitr [HB]
  · unfold own
    iapply pair; isplitl [Hat]; · iapply hat $$ Hat
    iapply pair; isplitl [Hopen]; · iapply (Entails.of_eq (rights_all (F := F))) $$ Hopen
    iapply (Entails.of_eq ((mine_all (F := F)).trans (deal (F := F)))) $$ Htok
  · iexact HB

end Cert.KernelIdeal.Hand
end
-- ==== Proof.Run.lean ====
/-
  The kernel's program runs: every execution ends, the arguments as launched, the result at its value, every counter at zero.
-/
module

public import proofs.«01_k».proof.Proof.Start
public import Idealize.ShloMosaic.Lib.Quiescent

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

theorem unscoped_eq : ∀ sm : SemLoc sig, sm.isScoped .tc = false → sm = .reg barS := by decide

/-- What a device's program ends with. -/
abbrev Tₙ (c : Dev nD) : sProp 𝕄 :=
  iprop(StableHlo.held (c : Thread nD τ) (Pipeline.ucRefs τ sig) (V3 m (outs m) c) ∗ semVal (barCell c) 0)

theorem uc_mem (r : Ref sig .tc) (h : r.isScoped = false) : (Proc.devRef .tc r : DevRef τ sig) ∈ Pipeline.ucRefs τ sig :=
  Finset.mem_filter.mpr ⟨StableHlo.devRef_mem_tcRefs r, fun hh => Bool.false_ne_true (h.symm.trans hh)⟩

/-- What the final memory holds on device `c`. -/
def Final (c : Dev nD) (s : MemSt nD τ sig (Elt F)) : Prop :=
  (s.mem ((c.tc : Thread nD τ).loc main_v44) = V3 m (outs m) c main_v44)
  ∧ (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))

/-- It is what the program ends with. -/
theorem final (c : Dev nD) (s' : Phys nD τ sig (Elt F)) :
    iprop(Tₙ m c ∗ SI s') ⊢ (|={Set.univ}=> iprop(⌜Final m c s'.mem ∧ s'.mem.sem (barCell c) = 0⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    exact ⟨⟨h _ (uc_mem main_v44 (by decide)),
      (h _ (uc_mem main_arg0 (by decide))).trans (V3_main_arg0 m (outs m) c),
      (h _ (uc_mem main_arg1 (by decide))).trans (V3_main_arg1 m (outs m) c),
      (h _ (uc_mem main_arg2 (by decide))).trans (V3_main_arg2 m (outs m) c),
      (h _ (uc_mem main_arg3 (by decide))).trans (V3_main_arg3 m (outs m) c),
      (h _ (uc_mem main_arg4 (by decide))).trans (V3_main_arg4 m (outs m) c)⟩, by simpa using hb⟩
  iexact HSI

theorem left_end (c : Dev nD) : iprop(StableHlo.held (c : Thread nD τ) (Pipeline.ucRefs τ sig) (V3 m (outs m) c) ∗ E m 1 c)
    ⊢ (iprop(Tₙ m c ∗ ∃ W, owes (c : Thread nD τ) (0 : CellTallies nD τ sig Unit) W) : sProp 𝕄) := by
  rw [show E m 1 c = left (F := F) c from rfl]
  unfold left Yk
  iintro ⟨Hh, Hb, -, HO⟩
  isplitr [HO]
  · isplitl [Hh] <;> iassumption
  iexact HO

set_option backward.isDefEq.respectTransparency.types false in
/-- From any memory with every counter at zero, every fair execution of the program ends, with the arguments as launched, the
    result buffer at the last valuation's value, and every counter at zero. -/
theorem run_main (ρ : Dev nD → PrngReg) : θ_run defs (onTc (τ := τ) (main (F := F))) ⟨m, fun _ => 0, ρ⟩
    (fun r => (∀ c : Dev nD, Final m c r.2) ∧ r.2.sem = fun _ => 0) :=
  Pipeline.θ_run_regions_kit_dev_sems (pcfgs (F := F)) adm (pdats m) () cellOf_inj EP defs₀ 𝒱₀ L lv m ρ main
    (segs m (outs m) 𝒱₀ L lv (E m) () (pdats m) (reg0 m))
    (fun c Q => by
      rewrite [main_chain c, Pipeline.Seg.run_eq_chain,
        show (segs m (outs m) 𝒱₀ L lv (E m) () (pdats m) (reg0 m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    O₀ L_of_ne (G (F := F)) u₀ u₀_split
    (T₀ := T₀ m) (Tₙ := Tₙ m)
    (hch := fun c => ⟨.rfl, reg0_pre m c, reg0_post m c, left_end m c⟩)
    (hinit := init m ρ)
    (QY := fun c s => Final m c s ∧ s.sem (barCell c) = 0)
    (hfin := final m)
    (hQ := fun s h hs => ⟨fun c => (h c).1, sem_eq_zero hs fun c sm hsm => by
      obtain rfl := unscoped_eq sm hsm
      exact (h c).2⟩)

end Cert.KernelIdeal.Hand
end
-- ==== Proof.Frames.lean ====
/-
  Both programs and the reference run and leave their arguments as launched, and the idealised program is the printed one
  but for the two named constants.
-/
module

public import proofs.«01_k».proof.Defs
public import proofs.«01_k».proof.Proof.Gen.Kernel
public import proofs.«01_k».proof.Proof.Gen.ReferenceIdeal.Run
public import proofs.«01_k».proof.Proof.Run
public import Idealize.ShloMosaic.Lib.Quiescent

@[expose] public section

set_option maxRecDepth 16384

noncomputable section

namespace Cert.Proof

open Idealize.ShloMosaic Idealize.SL.Sem

/-- At the bits a named constant is the literal it was printed from. -/
local instance namedBits : Named Bits := ⟨fun _ _ {_} b => Scalar.ofBits _ b⟩

/-- The two kernels' bodies are one at the bits. -/
theorem body_eq : Cert.Kernel.cc0_body (F := Bits) = Cert.KernelIdeal.cc0_body (F := Bits) := (rfl)

/-- So are their body tables. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => exact (rfl)

theorem defs_eq : Cert.Kernel.defs (F := Bits) = Cert.KernelIdeal.defs (F := Bits) := by
  unfold Cert.Kernel.defs Cert.KernelIdeal.defs
  exact congrArg (Pipeline.defs (Cert.KernelIdeal.pcfgs (F := Bits))) defs₀_eq

theorem part0_eq : Cert.Kernel.main_part0 (F := Bits) = Cert.KernelIdeal.main_part0 (F := Bits) := by
  with_unfolding_all rfl

theorem part1_eq : Cert.Kernel.main_part1 (F := Bits) = Cert.KernelIdeal.main_part1 (F := Bits) := by
  with_unfolding_all rfl

/-- And their programs. -/
theorem main_eq : Cert.Kernel.main (F := Bits) = Cert.KernelIdeal.main (F := Bits) := by
  unfold Cert.Kernel.main Cert.KernelIdeal.main
  rw [part0_eq, part1_eq]

/-- The printed kernel runs: it is the idealised one's text with the literals in place of the names. -/
theorem frame_kernel : Cert.quiescent_Kernel := fun m ρ _ => by
  rw [main_eq, defs_eq]
  exact (θ_run (Cert.KernelIdeal.defs (F := Bits)) _ _).mono (fun _ h => ⟨fun c => (h.1 c).2, h.2⟩)
    (Cert.KernelIdeal.Hand.run_main (F := Bits) m ρ)

/-- The idealised kernel runs. -/
theorem frame_kernelIdeal : Cert.quiescent_KernelIdeal := fun m ρ _ =>
  (θ_run (Cert.KernelIdeal.defs (F := Ideal)) _ _).mono (fun _ h => ⟨fun c => (h.1 c).2, h.2⟩)
    (Cert.KernelIdeal.Hand.run_main (F := Ideal) m ρ)

/-- The reference runs. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The idealised kernel differs from the printed one by the mask's literal and the scale's, each named. -/
theorem preserved : Cert.preserves_Kernel_KernelIdeal :=
  ⟨IdealRules.named_const.statement Cert.KernelIdeal.κ "mask" .f32 0xCE6E6B28#32 ⊥ rfl,
   IdealRules.named_const.statement Cert.KernelIdeal.κ "scale" .f32 0x3DB504F3#32 (((Real.sqrt 128)⁻¹ : ℝ) : EReal) rfl⟩

end Cert.Proof

end
-- ==== Proof.Attend.lean ====
/-
  One head of masked attention over the extended reals: the masked scores, their exponentials, the context. Dividing the
  weighted sum of the values by the sum of the exponentials is weighting the values by the quotients, the scores' parts finite.
-/
module

public import Idealize.ShloMosaic.PureOps
public import Idealize.ShloMosaic.PureOps.Ideal

@[expose] public section

noncomputable section

namespace Cert.Attend

open Idealize.ShloMosaic

/-! ## Finite numbers -/

/-- A finite number. -/
def Fin' (x : EReal) : Prop := ∃ r : ℝ, x = r

theorem fin_add {x y : EReal} (hx : Fin' x) (hy : Fin' y) : Fin' (x + y) := by
  obtain ⟨a, rfl⟩ := hx
  obtain ⟨b, rfl⟩ := hy
  exact ⟨a + b, (EReal.coe_add a b).symm⟩

theorem fin_mul {x y : EReal} (hx : Fin' x) (hy : Fin' y) : Fin' (x * y) := by
  obtain ⟨a, rfl⟩ := hx
  obtain ⟨b, rfl⟩ := hy
  exact ⟨a * b, (EReal.coe_mul a b).symm⟩

theorem fin_sum {ι : Type} (s : Finset ι) {f : ι → EReal} (h : ∀ i, Fin' (f i)) : Fin' (∑ i ∈ s, f i) := by
  classical
  induction s using Finset.induction_on with
  | empty => exact ⟨0, by simp⟩
  | insert a s ha ih => rw [Finset.sum_insert ha]; exact fin_add (h a) ih

/-- A sum of nonnegative finite numbers is one, and positive where a term is. -/
theorem pos_sum {n : ℕ} {f : Fin n → EReal} (h : ∀ j, ∃ r : ℝ, 0 ≤ r ∧ f j = r) {i : Fin n} (hi : 0 < f i) :
    ∃ r : ℝ, 0 < r ∧ ∑ j, f j = r := by
  obtain ⟨r, hr⟩ := fin_sum Finset.univ fun j => (h j).imp fun _ h => h.2
  refine ⟨r, ?_, hr⟩
  have h0 : ∀ j, 0 ≤ f j := fun j => by
    obtain ⟨q, hq, e⟩ := h j
    rw [e]; exact_mod_cast hq
  have : 0 < ∑ j, f j := lt_of_lt_of_le hi (Finset.single_le_sum (fun j _ => h0 j) (Finset.mem_univ i))
  rw [hr] at this
  exact_mod_cast this

/-- A nonnegative finite factor comes out of a sum, whatever the terms. -/
theorem sum_scale {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-! ## One row -/

/-- The row's greatest score. -/
def top {n : ℕ} (s : Fin n → EReal) : EReal := Finset.univ.fold max ⊥ s

/-- The exponentials of the scores less the greatest. -/
def ex {n : ℕ} (s : Fin n → EReal) (j : Fin n) : EReal := Ideal.exp (s j - top s)

theorem top_fin {n : ℕ} {s : Fin n → EReal} (hs : ∀ j, s j ≠ ⊤) {i : Fin n} (hi : s i ≠ ⊥) : Fin' (top s) := by
  have h1 : top s ≠ ⊤ := ne_of_lt ((Finset.fold_max_lt _).2 ⟨bot_lt_top, fun j _ => lt_top_iff_ne_top.2 (hs j)⟩)
  have h2 : top s ≠ ⊥ := fun e => hi (le_bot_iff.1 (e ▸ (Finset.le_fold_max _).2 (.inr ⟨i, Finset.mem_univ i, le_rfl⟩)))
  exact ⟨(top s).toReal, (EReal.coe_toReal h1 h2).symm⟩

theorem ex_fin {n : ℕ} {s : Fin n → EReal} (hs : ∀ j, s j ≠ ⊤) {i : Fin n} (hi : s i ≠ ⊥) (j : Fin n) :
    ∃ r : ℝ, 0 ≤ r ∧ ex s j = r := by
  obtain ⟨M, hM⟩ := top_fin hs hi
  unfold ex
  rw [hM]
  rcases eq_or_ne (s j) ⊥ with e | e
  · refine ⟨0, le_rfl, ?_⟩
    rw [e, EReal.bot_sub]
    rfl
  · obtain ⟨a, ha⟩ : ∃ a : ℝ, s j = a := ⟨(s j).toReal, (EReal.coe_toReal (hs j) e).symm⟩
    refine ⟨Real.exp (a - M), (Real.exp_pos _).le, ?_⟩
    rw [ha, ← EReal.coe_sub]
    rfl

theorem ex_pos {n : ℕ} {s : Fin n → EReal} (hs : ∀ j, s j ≠ ⊤) {i : Fin n} (hi : s i ≠ ⊥) : 0 < ex s i := by
  obtain ⟨M, hM⟩ := top_fin hs hi
  obtain ⟨a, ha⟩ : ∃ a : ℝ, s i = a := ⟨(s i).toReal, (EReal.coe_toReal (hs i) hi).symm⟩
  unfold ex
  rw [hM, ha, ← EReal.coe_sub]
  exact EReal.coe_pos.2 (Real.exp_pos _)

/-- The weighted sum divided is the sum of the divided weights. -/
theorem attend {n : ℕ} {s : Fin n → EReal} (hs : ∀ j, s j ≠ ⊤) {i : Fin n} (hi : s i ≠ ⊥) (v : Fin n → EReal) :
    Ideal.div (∑ j, ex s j * v j) (∑ j, ex s j) = ∑ j, v j * Ideal.div (ex s j) (∑ j, ex s j) := by
  obtain ⟨r, hr, e⟩ := pos_sum (ex_fin hs hi) (ex_pos hs hi)
  rw [e, Ideal.div_coe hr.ne', sum_scale _ _ (one_div_nonneg.2 hr.le)]
  refine Finset.sum_congr rfl fun j _ => ?_
  rw [Ideal.div_coe hr.ne', mul_comm (ex s j) (v j), mul_assoc]

/-! ## The masked scores -/

/-- Whether query `i` sees key `j`, as a word. -/
def see (i j : Fin 1024) : BitVec 1 :=
  IntOp.ori (IntOp.cmpi .sle (IntOp.absi (IntOp.subi (BitVec.ofNat 32 i.val) (BitVec.ofNat 32 j.val))) 128#32)
    (IntOp.ori (IntOp.cmpi .slt (BitVec.ofNat 32 j.val) 32#32) (IntOp.cmpi .slt (BitVec.ofNat 32 i.val) 32#32))

theorem one_ori (b : BitVec 1) : IntOp.ori 1#1 b = 1#1 := by
  rcases BitVec.eq_zero_or_eq_one b with rfl | rfl <;> rfl

/-- A query sees its own key. -/
theorem see_self (i : Fin 1024) : see i i = 1#1 := by
  have h : IntOp.cmpi .sle (IntOp.absi (IntOp.subi (BitVec.ofNat 32 i.val) (BitVec.ofNat 32 i.val))) 128#32 = 1#1 := by
    have : IntOp.subi (BitVec.ofNat 32 i.val) (BitVec.ofNat 32 i.val) = 0#32 := by
      show BitVec.ofNat 32 i.val - BitVec.ofNat 32 i.val = 0#32
      simp
    rw [this]
    rfl
  unfold see
  rw [h, one_ori]

/-- 1/√128. -/
def scale : EReal := (((Real.sqrt 128)⁻¹ : ℝ) : EReal)

variable (X : Fin 1024 → Fin 1024 → EReal) (Q : Fin 1024 → Fin 128 → EReal) (K V : Fin 1024 → Fin 128 → EReal)
  (O : Fin 128 → Fin 1024 → EReal)

/-- A query's product with a key. -/
def raw (i j : Fin 1024) : EReal := ∑ d : Fin 128, (∑ e : Fin 1024, X i e * Q e d) * K j d

/-- The scaled scores, an unseen key's at minus infinity. -/
def masked (i j : Fin 1024) : EReal := Scalar.select (see i j) (raw X Q K i j * scale) ⊥

/-- The head's context. -/
def ctx (i : Fin 1024) (d : Fin 128) : EReal :=
  ∑ j : Fin 1024, V j d * Ideal.div (ex (masked X Q K i) j) (∑ j, ex (masked X Q K i) j)

/-- The head's part of the result. -/
def head (i o : Fin 1024) : EReal := ∑ d : Fin 128, ctx X Q K V i d * O d o

variable {X Q K}

theorem raw_fin (hX : ∀ i e, Fin' (X i e)) (hQ : ∀ e d, Fin' (Q e d)) (hK : ∀ j d, Fin' (K j d)) (i j : Fin 1024) :
    Fin' (raw X Q K i j * scale) :=
  fin_mul (fin_sum _ fun d => fin_mul (fin_sum _ fun e => fin_mul (hX i e) (hQ e d)) (hK j d)) ⟨_, rfl⟩

theorem masked_ne_top (hX : ∀ i e, Fin' (X i e)) (hQ : ∀ e d, Fin' (Q e d)) (hK : ∀ j d, Fin' (K j d)) (i j : Fin 1024) :
    masked X Q K i j ≠ ⊤ := by
  obtain ⟨r, hr⟩ := raw_fin hX hQ hK i j
  unfold masked
  rcases BitVec.eq_zero_or_eq_one (see i j) with h | h <;> rw [h]
  · exact bot_ne_top
  · show raw X Q K i j * scale ≠ ⊤
    rw [hr]; exact EReal.coe_ne_top r

theorem masked_self (hX : ∀ i e, Fin' (X i e)) (hQ : ∀ e d, Fin' (Q e d)) (hK : ∀ j d, Fin' (K j d)) (i : Fin 1024) :
    masked X Q K i i ≠ ⊥ := by
  obtain ⟨r, hr⟩ := raw_fin hX hQ hK i i
  unfold masked
  rw [see_self]
  show raw X Q K i i * scale ≠ ⊥
  rw [hr]; exact EReal.coe_ne_bot r

/-- The kernel's context, one division after the product, is the reference's. -/
theorem ctx_eq (hX : ∀ i e, Fin' (X i e)) (hQ : ∀ e d, Fin' (Q e d)) (hK : ∀ j d, Fin' (K j d)) (i : Fin 1024) (d : Fin 128) :
    Ideal.div (∑ j, ex (masked X Q K i) j * V j d) (∑ j, ex (masked X Q K i) j) = ctx X Q K V i d :=
  attend (fun j => masked_ne_top hX hQ hK i j) (masked_self hX hQ hK i) fun j => V j d

/-- A score added to a bias of nothing or minus infinity is the masked score. -/
theorem add_bias (b : BitVec 1) (a : EReal) : a + Scalar.select b (0 : EReal) ⊥ = Scalar.select b a ⊥ := by
  rcases BitVec.eq_zero_or_eq_one b with rfl | rfl
  · exact EReal.add_bot a
  · exact add_zero a

end Cert.Attend
end
-- ==== Proof.Finite.lean ====
/-
  What the precondition says: every entry of the input, the query weights and the keys is a number.
-/
module

public import proofs.«01_k».proof.Defs
public import proofs.«01_k».proof.Proof.Attend
public import Idealize.ShloMosaic.Lib.Affine
public import Idealize.ShloMosaic.Lib.ReduceAll
public import Idealize.ShloMosaic.Lib.Pointwise

@[expose] public section

set_option maxRecDepth 16384

noncomputable section

namespace Cert.Proof

open Idealize.ShloMosaic Cert.Attend

/-- The predicate's shapes are right, over a device's arguments. -/
theorem factsK : Cert.Pre_scores_finite_KernelIdeal.Facts := by
  constructor <;> decide

/-- And over the whole arguments. -/
theorem factsR : Cert.Pre_scores_finite_ReferenceIdeal.Facts := by
  constructor <;> decide

/-- The literal of infinity. -/
theorem plusInf : Ideal.ofBits FTy.f32 2139095040#32 = ⊤ := by simp [Ideal.ofBits, Ideal.ieee]

/-- A number less than infinity in size is finite. -/
theorem fin_of_abs {x : EReal} (h : Ideal.cmp .olt (max x (-x)) (Ideal.ofBits FTy.f32 2139095040#32) = 1#1) : Fin' x := by
  have h' : max x (-x) < ⊤ := plusInf ▸ (Ideal.cmp_olt_eq_one _ _).1 h
  have h1 : x ≠ ⊤ := ((le_max_left _ _).trans_lt h').ne
  have h2 : x ≠ ⊥ := fun e => ((le_max_right _ _).trans_lt h').ne (by rw [e]; rfl)
  exact ⟨x.toReal, (EReal.coe_toReal h1 h2).symm⟩

instance : Subsingleton Cert.Pre_scores_finite_KernelIdeal.S_.Idx := ⟨fun a b => funext fun k => k.elim0⟩

attribute [local instance] factsK

/-- On every device the precondition makes the three arguments finite. -/
theorem finite {x : FVec Ideal ⟨3, ![1, 1024, 1024]⟩ .f32} {w wo : FVec Ideal ⟨2, ![1024, 1024]⟩ .f32} {k v : FVec Ideal ⟨4, ![4, 1024, 32, 128]⟩ .f32}
    (h : Cert.Pre_scores_finite_KernelIdeal.fn (F := Ideal) x w k v wo = fun _ => 1#1) :
    (∀ y, Fin' (x y)) ∧ (∀ y, Fin' (w y)) ∧ ∀ y, Fin' (k y) := by
  have h0 := congrFun h ix0
  dsimp only [Cert.Pre_scores_finite_KernelIdeal.fn] at h0
  obtain ⟨h1, hk⟩ := IntOp.andi_eq_one.1 h0
  obtain ⟨hx, hw⟩ := IntOp.andi_eq_one.1 h1
  exact ⟨fun y => fin_of_abs (Host.reduce_andi_all _ _ _ _ _ hx y), fun y => fin_of_abs (Host.reduce_andi_all _ _ _ _ _ hw y),
    fun y => fin_of_abs (Host.reduce_andi_all _ _ _ _ _ hk y)⟩

end Cert.Proof

end
-- ==== Proof.Ker.lean ====
/-
  What the kernel's payloads compute, read at an index: one head's attention, the accumulator after a head, after a group.
-/
module

public import proofs.«01_k».proof.Proof.Sends
public import proofs.«01_k».proof.Proof.Attend
public import Idealize.ShloMosaic.Lib.Pointwise

@[expose] public section

set_option maxRecDepth 16384

noncomputable section

namespace Cert.KernelIdeal.Hand

open Idealize.ShloMosaic Idealize.ShloMosaic.TcCoe
open Cert.Attend Cert.KernelIdeal Cert.KernelIdeal.Gen

/-! ## One head -/

/-- The bias: nothing where the key is seen, minus infinity elsewhere. -/
theorem bias_apply (i j : Fin 1024) : k0_pay11 (F := Ideal) (ix2 i j) = Scalar.select (see i j) (0 : EReal) ⊥ := by
  pointwise [k0_pay11]
  rw [show (Named.named κ "mask" 3463342888#32 : Ideal .f32) = (⊥ : EReal) from rfl]
  refine congrArg (fun b => Scalar.select b (0 : EReal) ⊥) ?_
  unfold see IntOp.ori
  exact BitVec.or_assoc _ _ _

theorem minusInf : Ideal.ofBits FTy.f32 4286578688#32 = ⊥ := by simp [Ideal.ofBits, Ideal.ieee]

/-- The head's context, from the blocks it loads. -/
theorem head_apply (X : Vec Ideal S1024x1024 .bf16) (Q : Vec Ideal S1x1024x128 .bf16) (K V : Vec Ideal S1x1x1024x128 .bf16)
    (hX : ∀ i e, Fin' (X (ix2 i e))) (hQ : ∀ e d, Fin' (Q (ix3 0 e d))) (hK : ∀ j d, Fin' (K (ix4 0 0 j d)))
    (i : Fin 1024) (d : Fin 128) :
    k0_pay3 X Q K (k0_pay11 (F := Ideal)) V (ix2 i d)
      = ctx (fun i e => X (ix2 i e)) (fun e d => Q (ix3 0 e d)) (fun j d => K (ix4 0 0 j d)) (fun j d => V (ix4 0 0 j d)) i d := by
  rw [← ctx_eq _ hX hQ hK]
  pointwise [k0_pay3]
  simp only [bias_apply, minusInf, show (Named.named κ "scale" 1035273459#32 : Ideal .f32) = scale from rfl, add_bias]
  rfl

/-- The accumulator after a head. -/
theorem trip_apply (X : Vec Ideal S1024x1024 .bf16) (W : WT Ideal) (K V : HT Ideal) (acc : Vec Ideal S1024x1024 .f32)
    (h : Fin 8) (hX : ∀ i e, Fin' (X (ix2 i e))) (hQ : ∀ e d, Fin' (wq W h (ix3 0 e d))) (hK : ∀ j d, Fin' (hd K h (ix4 0 0 j d)))
    (i o : Fin 1024) :
    trip X W K (k0_pay11 (F := Ideal)) V h acc (ix2 i o)
      = acc (ix2 i o) + head (fun i e => X (ix2 i e)) (fun e d => wq W h (ix3 0 e d)) (fun j d => hd K h (ix4 0 0 j d))
          (fun j d => hd V h (ix4 0 0 j d)) (fun d o => wo W h (ix3 0 d o)) i o := by
  unfold head
  simp only [← head_apply X (wq W h) (hd K h) (hd V h) hX hQ hK]
  pointwise [trip, k0_pay13, k0_pay2, k0_pay4]

end Cert.KernelIdeal.Hand
end
-- ==== Proof.Host.lean ====
/-
  What the host prepares for the kernel, read at an index, and what it makes of the result.
-/
module

public import proofs.«01_k».proof.Proof.Region
public import Idealize.ShloMosaic.Lib.Pointwise
public import Idealize.ShloMosaic.Lib.StableHlo.RunClose

@[expose] public section

set_option maxRecDepth 16384

noncomputable section

namespace Cert.KernelIdeal.Hand

open Idealize.ShloMosaic Idealize.ShloMosaic.TcCoe
open Cert.KernelIdeal Cert.KernelIdeal.Gen

variable (m : (ℓ : Loc nD τ sig) → Buf (Elt Ideal) ℓ)

/-- The last buffer holds the region's result under a leading dimension of one. -/
theorem V3_v44 (c : Dev nD) : V3 m (outs m) c main_v44 = shapeCast S1x1024x1024 (Om m c) shapeCasts_S1024x1024_S1x1024x1024 := by
  rw [← V2_v43]
  unfold V3 hostOps1
  after_results_simp
  rfl

/-- The keys the kernel is given are the device's own block of the whole, its heads first. -/
theorem Km_apply (c : Dev nD) (h : Fin 32) (j : Fin 1024) (d : Fin 128) :
    Km m c (ix3 h j d) = m ((c.tc : Thread nD τ).loc main_arg2) (ix4 c j h d) := by
  unfold Km V1 hostOps0
  after_results_simp_entrywise
  pointwise
  refine congrArg (m _) (congr (congr (congr (congrArg ix4 ?_) ?_) ?_) ?_)
  · refine Fin.ext ?_
    fin_cases c <;> rfl
  · exact Fin.ext (Eq.trans (congrArg (· + j.val) (by rfl : _ = 0)) (Nat.zero_add _))
  · exact Fin.ext (Eq.trans (congrArg (· + h.val) (by rfl : _ = 0)) (Nat.zero_add _))
  · exact Fin.ext (Eq.trans (congrArg (· + d.val) (by rfl : _ = 0)) (Nat.zero_add _))

/-- The values likewise. -/
theorem Vm_apply (c : Dev nD) (h : Fin 32) (j : Fin 1024) (d : Fin 128) :
    Vm m c (ix3 h j d) = m ((c.tc : Thread nD τ).loc main_arg3) (ix4 c j h d) := by
  unfold Vm V1 hostOps0
  after_results_simp_entrywise
  pointwise
  refine congrArg (m _) (congr (congr (congr (congrArg ix4 ?_) ?_) ?_) ?_)
  · refine Fin.ext ?_
    fin_cases c <;> rfl
  · exact Fin.ext (Eq.trans (congrArg (· + j.val) (by rfl : _ = 0)) (Nat.zero_add _))
  · exact Fin.ext (Eq.trans (congrArg (· + h.val) (by rfl : _ = 0)) (Nat.zero_add _))
  · exact Fin.ext (Eq.trans (congrArg (· + d.val) (by rfl : _ = 0)) (Nat.zero_add _))

/-- The queries' input is the device's own block. -/
theorem Xm_apply (c : Dev nD) (i e : Fin 1024) : Xm m c (ix2 i e) = m ((c.tc : Thread nD τ).loc main_arg0) (ix3 0 i e) := by
  unfold Xm V1 hostOps0
  after_results_simp_entrywise
  pointwise

/-- The first of the pair of weights is the query weights. -/
theorem Wm_query (c : Dev nD) (e q : Fin 1024) : Wm m c (ix3 0 e q) = m ((c.tc : Thread nD τ).loc main_arg1) (ix2 e q) := by
  unfold Wm V1 hostOps0
  after_results_simp_entrywise
  pointwise
  after_results_simp_entrywise
  pointwise

/-- The second is the output weights. -/
theorem Wm_out (c : Dev nD) (q o : Fin 1024) : Wm m c (ix3 1 q o) = m ((c.tc : Thread nD τ).loc main_arg4) (ix2 q o) := by
  unfold Wm V1 hostOps0
  after_results_simp_entrywise
  pointwise
  after_results_simp_entrywise
  pointwise

/-- The result is the kernel's, one row of blocks put before it. -/
theorem V3_apply (c : Dev nD) (i o : Fin 1024) : V3 m (outs m) c main_v44 (ix3 0 i o) = Om m c (ix2 i o) := by
  rw [V3_v44]
  pointwise

end Cert.KernelIdeal.Hand
end
-- ==== Proof.Ring.lean ====
/-
  A device's result at an index: the sum of the heads' parts over the four groups the ring brings it.
-/
module

public import proofs.«01_k».proof.Proof.Ker
public import proofs.«01_k».proof.Proof.Host

@[expose] public section

set_option maxRecDepth 16384

noncomputable section

namespace Cert.KernelIdeal.Hand

open Idealize.ShloMosaic Idealize.ShloMosaic.TcCoe
open Cert.Attend Cert.KernelIdeal Cert.KernelIdeal.Gen

/-- The part of head `h` of group `g`: its columns of the group's query weights, its keys and values, its rows of the
    group's output weights. -/
def part (X : Vec Ideal S1024x1024 .bf16) (Wv : Dev nD → WT Ideal) (K V : S32x1024x128.Idx → Elt Ideal .bf16)
    (i o : Fin 1024) (g : Fin 4) (h : Fin 8) : EReal :=
  head (fun i e => X (ix2 i e)) (fun e d => Wv g (ix3 0 e ⟨128 * h.val + d.val, by omega⟩))
    (fun j d => K (ix3 ⟨8 * g.val + h.val, by omega⟩ j d)) (fun j d => V (ix3 ⟨8 * g.val + h.val, by omega⟩ j d))
    (fun d o => Wv g (ix3 1 ⟨128 * h.val + d.val, by omega⟩ o)) i o

section
variable {X : Vec Ideal S1024x1024 .bf16} {Wv : Dev nD → WT Ideal} {K V : S32x1024x128.Idx → Elt Ideal .bf16}
  (hX : ∀ i e, Fin' (X (ix2 i e))) (hQ : ∀ g e q, Fin' (Wv g (ix3 0 e q))) (hK : ∀ h j d, Fin' (K (ix3 h j d)))
include hX hQ hK

/-- The accumulator after some of a group's heads. -/
theorem accN_apply (g : Fin 4) (acc : Vec Ideal S1024x1024 .f32) (i o : Fin 1024) (n : ℕ) (hn : n ≤ 8) :
    accN X (Wv g) (grp K g) (k0_pay11 (F := Ideal)) (grp V g) acc n (ix2 i o)
      = acc (ix2 i o) + ∑ h : Fin n, part X Wv K V i o g (h.castLE hn) := by
  induction n with
  | zero => exact (add_zero _).symm
  | succ n ih =>
    rw [accN_succ _ _ _ _ _ _ n hn, Fin.sum_univ_castSucc, ← add_assoc]
    refine (trip_apply X (Wv g) (grp K g) (grp V g) _ ⟨n, hn⟩ hX (fun e d => hQ g e _) (fun j d => hK _ j d) i o).trans ?_
    rw [ih (Nat.le_of_succ_le hn)]
    rfl

/-- The accumulator after a group. -/
theorem hop_apply (g : Fin 4) (acc : Vec Ideal S1024x1024 .f32) (i o : Fin 1024) :
    hop X Wv K V g acc (ix2 i o) = acc (ix2 i o) + ∑ h : Fin 8, part X Wv K V i o g h :=
  accN_apply hX hQ hK g acc i o 8 le_rfl

omit hX hQ hK in
/-- The accumulator begins at nothing. -/
theorem begin_apply (i o : Fin 1024) : k0_pay12 (F := Ideal) (ix2 i o) = (0 : EReal) := by
  pointwise [k0_pay12]

omit hX hQ hK in
/-- Around the ring from any device every group is met once. -/
theorem around (f : Fin 4 → EReal) (c : Dev nD) : 0 + f c + f (lf c) + f (lf (lf c)) + f (lf (lf (lf c))) = ∑ g, f g := by
  rw [Fin.sum_univ_four, zero_add]
  fin_cases c
  · show f 0 + f 3 + f 2 + f 1 = _
    abel
  · show f 1 + f 0 + f 3 + f 2 = _
    abel
  · show f 2 + f 1 + f 0 + f 3 = _
    abel
  · show f 3 + f 2 + f 1 + f 0 = _
    abel

/-- The result is the sum of the heads' parts. -/
theorem outOf_apply (c : Dev nD) (i o : Fin 1024) :
    outOf X Wv K V c (ix2 i o) = ∑ g : Fin 4, ∑ h : Fin 8, part X Wv K V i o g h := by
  unfold outOf
  rw [hop_apply hX hQ hK, hop_apply hX hQ hK, hop_apply hX hQ hK, hop_apply hX hQ hK, begin_apply]
  exact around (fun g => ∑ h : Fin 8, part X Wv K V i o g h) c

end

end Cert.KernelIdeal.Hand
end
-- ==== Proof.Ref.lean ====
/-
  The reference's value read at an index: which keys a query sees, the scores, their exponentials, the context, the product
  with the output weights.
-/
module

public import proofs.«01_k».proof.Proof.Gen.ReferenceIdeal.Run
public import proofs.«01_k».proof.Proof.Attend
public import Idealize.ShloMosaic.Lib.Pointwise
public import Idealize.ShloMosaic.Lib.Routing.OpsOrder

@[expose] public section

set_option maxRecDepth 16384

noncomputable section

namespace Cert.ReferenceIdeal.Hand

open Idealize.ShloMosaic Idealize.ShloMosaic.TcCoe
open Cert.Attend Cert.ReferenceIdeal Cert.ReferenceIdeal.Gen Cert.ReferenceIdeal.Value

/-- Which keys a query sees. -/
def seen : IVec S1024x1024 1 :=
  ori (cmpi .sle (absi (subi
      (broadcastInDim S1024x1024 ![0, 1] bcast_S1024x1_S1024x1024_0_1 (broadcastInDim S1024x1 ![0] bcast_S1024_S1024x1_0 (iotaInDim S1024 32 0)))
      (broadcastInDim S1024x1024 ![0, 1] bcast_S1x1024_S1024x1024_0_1 (broadcastInDim S1x1024 ![1] bcast_S1024_S1x1024_1 (iotaInDim S1024 32 0)))))
    (broadcastInDim S1024x1024 ![] bcast_S_S1024x1024 (constantI S_ 32 128#32)))
  (ori (broadcastInDim S1024x1024 ![0, 1] bcast_S1x1024_S1024x1024_0_1 (cmpi .slt (broadcastInDim S1x1024 ![1] bcast_S1024_S1x1024_1 (iotaInDim S1024 32 0))
        (broadcastInDim S1x1024 ![] bcast_S_S1x1024 (constantI S_ 32 32#32))))
      (broadcastInDim S1024x1024 ![0, 1] bcast_S1024x1_S1024x1024_0_1 (cmpi .slt (broadcastInDim S1024x1 ![0] bcast_S1024_S1024x1_0 (iotaInDim S1024 32 0))
        (broadcastInDim S1024x1 ![] bcast_S_S1024x1 (constantI S_ 32 32#32)))))

/-- The scores, those of unseen keys at minus infinity. -/
def scores (x : FVec Ideal S4x1024x1024 .f32) (w : FVec Ideal S1024x4096 .f32) (k : FVec Ideal S4x1024x32x128 .f32) :
    FVec Ideal S4x32x1024x1024 .f32 :=
  select (broadcastInDim S4x32x1024x1024 ![0, 1, 2, 3] bcast_S1x1x1024x1024_S4x32x1024x1024_0_1_2_3
      (broadcastInDim S1x1x1024x1024 ![2, 3] bcast_S1024x1024_S1x1x1024x1024_2_3 seen))
    (Host.divf (Host.dotGeneral dot_S4x1024x32x128_S4x1024x32x128_S4x32x1024x1024_3_3_1_1_02_02 none
        (shapeCast S4x1024x32x128 (Host.dotGeneral dot_S4x1024x1024_S1024x4096_S4x1024x4096_2_0_01_1_n_n none x w) shapeCasts_S4x1024x4096_S4x1024x32x128) k)
      (broadcastInDim S4x32x1024x1024 ![] bcast_S_S4x32x1024x1024 (Host.sqrt (constant S_ .f32 0x43000000#32))))
    (broadcastInDim S4x32x1024x1024 ![] bcast_S_S4x32x1024x1024 (id (constant S_ .f32 0xFF800000#32)))

/-- The exponentials of the scores less their row's greatest. -/
def exps (s : FVec Ideal S4x32x1024x1024 .f32) : FVec Ideal S4x32x1024x1024 .f32 :=
  Host.exp (subf s (broadcastInDim S4x32x1024x1024 ![0, 1, 2, 3] bcast_S4x32x1024x1_S4x32x1024x1024_0_1_2_3
    (broadcastInDim S4x32x1024x1 ![0, 1, 2] bcast_S4x32x1024_S4x32x1024x1_0_1_2
      (Host.reduce FloatOps.maximumf s (constant S_ .f32 0xFF800000#32) reducesTo_S4x32x1024x1024_S4x32x1024_d3 h_S_))))

/-- Which queries see any key. -/
def any : IVec S1024 1 := Host.reduce IntOp.ori seen (constantI S_ 1 0#1) reducesTo_S1024x1024_S1024_d1 h_S_

/-- The attention weights. -/
def weights (e : FVec Ideal S4x32x1024x1024 .f32) : FVec Ideal S4x32x1024x1024 .f32 :=
  select (broadcastInDim S4x32x1024x1024 ![0, 1, 2, 3] bcast_S1x1x1024x1_S4x32x1024x1024_0_1_2_3
      (broadcastInDim S1x1x1024x1 ![2] bcast_S1024_S1x1x1024x1_2 any))
    (Host.divf e (broadcastInDim S4x32x1024x1024 ![0, 1, 2, 3] bcast_S4x32x1024x1_S4x32x1024x1024_0_1_2_3
      (select (broadcastInDim S4x32x1024x1 ![0, 1, 2, 3] bcast_S1x1x1024x1_S4x32x1024x1_0_1_2_3
          (broadcastInDim S1x1x1024x1 ![2] bcast_S1024_S1x1x1024x1_2 any))
        (broadcastInDim S4x32x1024x1 ![0, 1, 2] bcast_S4x32x1024_S4x32x1024x1_0_1_2
          (Host.reduceAdd e (constant S_ .f32 0x00000000#32) reducesTo_S4x32x1024x1024_S4x32x1024_d3 h_S_))
        (broadcastInDim S4x32x1024x1 ![] bcast_S_S4x32x1024x1 (id (constant S_ .f32 0x3F800000#32))))))
    (broadcastInDim S4x32x1024x1024 ![] bcast_S_S4x32x1024x1024 (id (constant S_ .f32 0x00000000#32)))

/-- The result, from the weights. -/
def result (v : FVec Ideal S4x1024x32x128 .f32) (p : FVec Ideal S4x32x1024x1024 .f32) (wo : FVec Ideal S4096x1024 .f32) :
    FVec Ideal S4x1024x1024 .f32 :=
  Host.dotGeneral dot_S4x1024x4096_S4096x1024_S4x1024x1024_2_0_01_1_n_n none
    (shapeCast S4x1024x4096 (transpose S4x1024x32x128 [0, 3, 1, 2]
      (Host.dotGeneral dot_S4x1024x32x128_S4x32x1024x1024_S4x32x128x1024_1_3_3_2_02_01 none v p)
      transposes_S4x32x128x1024_S4x1024x32x128_0_3_1_2) shapeCasts_S4x1024x32x128_S4x1024x4096) wo

/-- The program's result in these terms. -/
theorem res_eq (m : (ℓ : Loc nD τ sig) → Buf (Elt Ideal) ℓ) (c : Dev nD) :
    res_main_v43 m c = result (m ((c.tc : Thread nD τ).loc main_arg3))
      (weights (exps (scores (m ((c.tc : Thread nD τ).loc main_arg0)) (m ((c.tc : Thread nD τ).loc main_arg1))
        (m ((c.tc : Thread nD τ).loc main_arg2))))) (m ((c.tc : Thread nD τ).loc main_arg4)) := rfl

/-- The literal of minus infinity. -/
theorem minusInf : Ideal.ofBits FTy.f32 4286578688#32 = ⊥ := by simp [Ideal.ofBits, Ideal.ieee]

/-- The score of an unseen key. -/
theorem minusInf_const : (id (constant (F := Ideal) S_ .f32 0xFF800000#32) : FVec Ideal S_ .f32) ix0 = ⊥ := minusInf

/-- A number over the root of 128 is it times the scale. -/
theorem div_root (a : EReal) : Ideal.div a (Ideal.sqrt (Ideal.ofBits FTy.f32 1124073472#32)) = a * scale := by
  have h : Ideal.ofBits FTy.f32 1124073472#32 = ((128 : ℝ) : EReal) := by
    simp [Ideal.ofBits, Ideal.ieee, -EReal.coe_mul]
    norm_num
  have hs : Real.sqrt 128 ≠ 0 := (Real.sqrt_pos.2 (by norm_num)).ne'
  rw [h, Ideal.sqrt_coe, if_neg (by norm_num), Ideal.div_coe hs, one_div]
  rfl

/-- The mask at a query and a key. -/
theorem seen_apply (i j : Fin 1024) : seen (ix2 i j) = see i j := by
  pointwise [seen]
  rfl

/-- Every query sees a key, its own. -/
theorem any_apply (i : Fin 1024) : any (ix1 i) = 1#1 := by
  pointwise [any]
  exact (Routing.fold_ori _ _).2 ⟨i, Finset.mem_univ i, (seen_apply i i).trans (see_self i)⟩

/-- The scores are the masked scores of a head. -/
theorem scores_apply (x : FVec Ideal S4x1024x1024 .f32) (w : FVec Ideal S1024x4096 .f32) (k : FVec Ideal S4x1024x32x128 .f32)
    (b : Fin 4) (h : Fin 32) (i j : Fin 1024) :
    scores x w k (ix4 b h i j) = masked (fun i e => x (ix3 b i e)) (fun e d => w (ix2 e ⟨h.val * 128 + d.val, by omega⟩))
      (fun j d => k (ix4 b j h d)) i j := by
  pointwise [scores]
  rw [seen_apply, div_root, minusInf_const]
  rfl

/-- The exponentials at an index. -/
theorem exps_apply (s : FVec Ideal S4x32x1024x1024 .f32)
    (b : Fin 4) (h : Fin 32) (i j : Fin 1024) : exps s (ix4 b h i j) = ex (fun j => s (ix4 b h i j)) j := by
  pointwise [exps]
  rw [minusInf]
  rfl

/-- A weight is its exponential over the row's sum. -/
theorem weights_apply (s : FVec Ideal S4x32x1024x1024 .f32) (b : Fin 4) (h : Fin 32) (i j : Fin 1024) :
    weights s (ix4 b h i j) = Ideal.div (s (ix4 b h i j)) (∑ j, s (ix4 b h i j)) := by
  pointwise [weights]
  rw [any_apply]
  rfl

/-- The result at an index is a sum over the columns of all heads. -/
theorem result_apply (v : FVec Ideal S4x1024x32x128 .f32) (p : FVec Ideal S4x32x1024x1024 .f32) (wo : FVec Ideal S4096x1024 .f32)
    (b : Fin 4) (i o : Fin 1024) :
    result v p wo (ix3 b i o) = ∑ x : Fin 4096, (∑ j, v (ix4 b j ⟨x.val / 128, by omega⟩ ⟨x.val % 128, by omega⟩)
      * p (ix4 b ⟨x.val / 128, by omega⟩ i j)) * wo (ix2 x o) := by
  pointwise [result]

end Cert.ReferenceIdeal.Hand
end
-- ==== Proof.RefHeads.lean ====
/-
  The reference's result as the sum over its heads.
-/
module

public import proofs.«01_k».proof.Proof.Ref

@[expose] public section

set_option maxRecDepth 16384

noncomputable section

namespace Cert.ReferenceIdeal.Hand

open Idealize.ShloMosaic Idealize.ShloMosaic.TcCoe
open Cert.Attend Cert.ReferenceIdeal Cert.ReferenceIdeal.Gen Cert.ReferenceIdeal.Value

/-- The 4096 columns are 32 heads of 128. -/
theorem sum_heads (f : Fin 32 → Fin 128 → Fin 4096 → EReal) :
    ∑ x : Fin 4096, f ⟨x.val / 128, by omega⟩ ⟨x.val % 128, by omega⟩ x
      = ∑ h : Fin 32, ∑ d : Fin 128, f h d ⟨h.val * 128 + d.val, by omega⟩ := by
  rw [← Fintype.sum_prod_type' (f := fun (h : Fin 32) (d : Fin 128) => f h d ⟨h.val * 128 + d.val, by omega⟩)]
  refine Fintype.sum_equiv ⟨fun x : Fin 4096 => ((⟨x.val / 128, by omega⟩ : Fin 32), (⟨x.val % 128, by omega⟩ : Fin 128)),
    fun y => ⟨y.1.val * 128 + y.2.val, by omega⟩, fun x => Fin.ext ?_, fun y => Prod.ext (Fin.ext ?_) (Fin.ext ?_)⟩ _ _ fun x => ?_
  · show x.val / 128 * 128 + x.val % 128 = x.val
    omega
  · show (y.1.val * 128 + y.2.val) / 128 = y.1.val
    omega
  · show (y.1.val * 128 + y.2.val) % 128 = y.2.val
    omega
  · refine congrArg (f _ _) (Fin.ext ?_)
    show x.val = x.val / 128 * 128 + x.val % 128
    omega

/-- The whole computation is the sum of the heads' parts. -/
theorem result_heads (x : FVec Ideal S4x1024x1024 .f32) (w : FVec Ideal S1024x4096 .f32) (k v : FVec Ideal S4x1024x32x128 .f32)
    (wo : FVec Ideal S4096x1024 .f32) (b : Fin 4) (i o : Fin 1024) :
    result v (weights (exps (scores x w k))) wo (ix3 b i o) = ∑ h : Fin 32, head
      (fun i e => x (ix3 b i e))
      (fun e d => w (ix2 e ⟨h.val * 128 + d.val, by omega⟩))
      (fun j d => k (ix4 b j h d))
      (fun j d => v (ix4 b j h d))
      (fun d o => wo (ix2 ⟨h.val * 128 + d.val, by omega⟩ o)) i o := by
  rw [result_apply]
  refine (sum_heads fun h d q => (∑ j, v (ix4 b j h d) * weights (exps (scores x w k)) (ix4 b h i j)) * wo (ix2 q o)).trans ?_
  simp only [weights_apply, exps_apply, scores_apply]
  rfl

/-- The reference's result is the sum of the heads' parts. -/
theorem ref_apply (m : (ℓ : Loc nD τ sig) → Buf (Elt Ideal) ℓ) (c : Dev nD) (b : Fin 4) (i o : Fin 1024) :
    res_main_v43 m c (ix3 b i o) = ∑ h : Fin 32, head
      (fun i e => m ((c.tc : Thread nD τ).loc main_arg0) (ix3 b i e))
      (fun e d => m ((c.tc : Thread nD τ).loc main_arg1) (ix2 e ⟨h.val * 128 + d.val, by omega⟩))
      (fun j d => m ((c.tc : Thread nD τ).loc main_arg2) (ix4 b j h d))
      (fun j d => m ((c.tc : Thread nD τ).loc main_arg3) (ix4 b j h d))
      (fun d o => m ((c.tc : Thread nD τ).loc main_arg4) (ix2 ⟨h.val * 128 + d.val, by omega⟩ o)) i o := by
  rw [res_eq]
  exact result_heads _ _ _ _ _ b i o

end Cert.ReferenceIdeal.Hand
end
-- ==== Proof.Value.lean ====
/-
  The two results are one: device `c`'s result is block `c` of the reference's.
-/
module

public import proofs.«01_k».proof.Proof.Finite
public import proofs.«01_k».proof.Proof.Frames
public import proofs.«01_k».proof.Proof.Ring
public import proofs.«01_k».proof.Proof.RefHeads

@[expose] public section

set_option maxRecDepth 16384

noncomputable section

namespace Cert.Proof

open Idealize.ShloMosaic Idealize.SL.Sem Idealize.ShloMosaic.TcCoe Cert.Attend

/-- Four groups of eight heads are the 32 heads. -/
theorem sum_groups (f : Fin 32 → EReal) : ∑ g : Fin 4, ∑ h : Fin 8, f ⟨8 * g.val + h.val, by omega⟩ = ∑ h, f h := by
  rw [← Fintype.sum_prod_type' (f := fun (g : Fin 4) (h : Fin 8) => f ⟨8 * g.val + h.val, by omega⟩)]
  symm
  refine Fintype.sum_equiv ⟨fun x : Fin 32 => ((⟨x.val / 8, by omega⟩ : Fin 4), (⟨x.val % 8, by omega⟩ : Fin 8)),
    fun y => ⟨8 * y.1.val + y.2.val, by omega⟩, fun x => Fin.ext ?_, fun y => Prod.ext (Fin.ext ?_) (Fin.ext ?_)⟩ _ _ fun x => ?_
  · show 8 * (x.val / 8) + x.val % 8 = x.val
    omega
  · show (8 * y.1.val + y.2.val) / 8 = y.1.val
    omega
  · show (8 * y.1.val + y.2.val) % 8 = y.2.val
    omega
  · refine congrArg f (Fin.ext ?_)
    show x.val = 8 * (x.val / 8) + x.val % 8
    omega

/-! ## A device's block of an argument -/

/-- A block of the input is one of its four slabs. -/
theorem block_x (c : Fin 4) (v : (⟨3, ![4, 1024, 1024]⟩ : Shape).Idx → EReal) (i e : Fin 1024) :
    Layout.block ⟨3, ![1, 1024, 1024]⟩ ⟨3, ![4, 1024, 1024]⟩ 0 4 c v (by decide) (ix3 0 i e) = v (ix3 c i e) := by
  rw [Layout.block_apply]
  refine congrArg v (funext fun b => Fin.ext ?_)
  rw [Layout.Tiles.idx_val]
  fin_cases b
  · show c.val * 1 + 0 = c.val
    omega
  · rfl
  · rfl

/-- A block of the query weights is 1024 of their columns. -/
theorem block_q (c : Fin 4) (v : (⟨2, ![1024, 4096]⟩ : Shape).Idx → EReal) (e q : Fin 1024) :
    Layout.block ⟨2, ![1024, 1024]⟩ ⟨2, ![1024, 4096]⟩ 1 4 c v (by decide) (ix2 e q) = v (ix2 e ⟨c.val * 1024 + q.val, by omega⟩) := by
  rw [Layout.block_apply]
  refine congrArg v (funext fun b => Fin.ext ?_)
  rw [Layout.Tiles.idx_val]
  fin_cases b
  · rfl
  · rfl

/-- A block of the output weights is 1024 of their rows. -/
theorem block_o (c : Fin 4) (v : (⟨2, ![4096, 1024]⟩ : Shape).Idx → EReal) (q o : Fin 1024) :
    Layout.block ⟨2, ![1024, 1024]⟩ ⟨2, ![4096, 1024]⟩ 0 4 c v (by decide) (ix2 q o) = v (ix2 ⟨c.val * 1024 + q.val, by omega⟩ o) := by
  rw [Layout.block_apply]
  refine congrArg v (funext fun b => Fin.ext ?_)
  rw [Layout.Tiles.idx_val]
  fin_cases b
  · rfl
  · rfl

/-! ## The result -/

section
open Cert.KernelIdeal Cert.KernelIdeal.Gen Cert.KernelIdeal.Hand

variable (m : (ℓ : Loc nD τ sig) → Buf (Elt Ideal) ℓ)
  {x : (⟨3, ![4, 1024, 1024]⟩ : Shape).Idx → EReal} {w : (⟨2, ![1024, 4096]⟩ : Shape).Idx → EReal}
  {k v : (⟨4, ![4, 1024, 32, 128]⟩ : Shape).Idx → EReal} {wo : (⟨2, ![4096, 1024]⟩ : Shape).Idx → EReal}

/-- A device's result at an index, from the whole arguments its own are blocks of. -/
theorem out_apply
    (hx : ∀ c : Dev nD, m ((c.tc : Thread nD τ).loc main_arg0) = Layout.block ⟨3, ![1, 1024, 1024]⟩ ⟨3, ![4, 1024, 1024]⟩ 0 4 c x)
    (hw : ∀ c : Dev nD, m ((c.tc : Thread nD τ).loc main_arg1) = Layout.block ⟨2, ![1024, 1024]⟩ ⟨2, ![1024, 4096]⟩ 1 4 c w)
    (hk : ∀ c : Dev nD, m ((c.tc : Thread nD τ).loc main_arg2) = k)
    (hv : ∀ c : Dev nD, m ((c.tc : Thread nD τ).loc main_arg3) = v)
    (ho : ∀ c : Dev nD, m ((c.tc : Thread nD τ).loc main_arg4) = Layout.block ⟨2, ![1024, 1024]⟩ ⟨2, ![4096, 1024]⟩ 0 4 c wo)
    (fx : ∀ (c : Dev nD) y, Fin' (m ((c.tc : Thread nD τ).loc main_arg0) y))
    (fw : ∀ (c : Dev nD) y, Fin' (m ((c.tc : Thread nD τ).loc main_arg1) y))
    (fk : ∀ (c : Dev nD) y, Fin' (m ((c.tc : Thread nD τ).loc main_arg2) y)) (c : Dev nD) (i o : Fin 1024) :
    V3 m (outs m) c main_v44 (ix3 0 i o) = ∑ h : Fin 32, head
      (fun i e => x (ix3 c i e))
      (fun e d => w (ix2 e ⟨h.val * 128 + d.val, by omega⟩))
      (fun j d => k (ix4 c j h d))
      (fun j d => v (ix4 c j h d))
      (fun d o => wo (ix2 ⟨h.val * 128 + d.val, by omega⟩ o)) i o := by
  rw [V3_apply]
  unfold Om
  refine (outOf_apply (fun i e => ?_) (fun g e q => ?_) (fun h j d => ?_) c i o).trans ?_
  · rw [Xm_apply]; exact fx c _
  · rw [Wm_query]; exact fw g _
  · rw [Km_apply]; exact fk c _
  rw [← sum_groups]
  refine Finset.sum_congr rfl fun g _ => Finset.sum_congr rfl fun h _ => ?_
  have e0 : (fun i e => Xm m c (ix2 i e)) = fun i e => x (ix3 c i e) := funext₂ fun i e => by
    rw [Xm_apply, hx]; exact block_x c x i e
  have e1 : (fun (e : Fin 1024) (d : Fin 128) => Wm m g (ix3 0 e ⟨128 * h.val + d.val, by omega⟩))
      = fun e d => w (ix2 e ⟨(8 * g.val + h.val) * 128 + d.val, by omega⟩) := funext₂ fun e d => by
    rw [Wm_query, hw]
    refine (block_q g w e _).trans (congrArg (fun q => w (ix2 e q)) (Fin.ext ?_))
    show g.val * 1024 + (128 * h.val + d.val) = (8 * g.val + h.val) * 128 + d.val
    omega
  have e2 : (fun (j : Fin 1024) (d : Fin 128) => Km m c (ix3 ⟨8 * g.val + h.val, by omega⟩ j d))
      = fun j d => k (ix4 c j ⟨8 * g.val + h.val, by omega⟩ d) := funext₂ fun j d => by
    rw [Km_apply, hk]
  have e3 : (fun (j : Fin 1024) (d : Fin 128) => Vm m c (ix3 ⟨8 * g.val + h.val, by omega⟩ j d))
      = fun j d => v (ix4 c j ⟨8 * g.val + h.val, by omega⟩ d) := funext₂ fun j d => by
    rw [Vm_apply, hv]
  have e4 : (fun (d : Fin 128) (o : Fin 1024) => Wm m g (ix3 1 ⟨128 * h.val + d.val, by omega⟩ o))
      = fun d o => wo (ix2 ⟨(8 * g.val + h.val) * 128 + d.val, by omega⟩ o) := funext₂ fun d o => by
    rw [Wm_out, ho]
    refine (block_o g wo _ o).trans (congrArg (fun q => wo (ix2 q o)) (Fin.ext ?_))
    show g.val * 1024 + (128 * h.val + d.val) = (8 * g.val + h.val) * 128 + d.val
    omega
  unfold part
  rw [e0, e1, e2, e3, e4]

end

attribute [local instance] factsK

/-- The kernel's results are the blocks of the reference's. -/
theorem equal : Cert.algebraic_KernelIdeal_ReferenceIdeal_pre_scores_finite_KernelIdeal := fun m ρ m' ρ' pre hm => by
  refine ⟨Cert.ReferenceIdeal.Value.res_main_v43 m' 0, ?_, ?_⟩
  · refine (θ_run (Cert.KernelIdeal.defs (F := Ideal)) _ _).mono (fun r h c => ⟨?_, (h.1 c).2⟩)
      (Cert.KernelIdeal.Hand.run_main (F := Ideal) m ρ)
    rw [(h.1 c).1]
    funext y
    obtain ⟨i, o, rfl⟩ : ∃ i o, y = ix3 0 i o := ⟨y 1, y 2, funext fun b => by
      fin_cases b
      · exact Subsingleton.elim (α := Fin 1) _ _
      · rfl
      · rfl⟩
    refine (out_apply m (fun c => (hm c).1) (fun c => (hm c).2.1) (fun c => (hm c).2.2.1) (fun c => (hm c).2.2.2.1)
      (fun c => (hm c).2.2.2.2) (fun c => (finite (pre c)).1) (fun c => (finite (pre c)).2.1) (fun c => (finite (pre c)).2.2) c i o).trans ?_
    refine Eq.trans ?_ (block_x c (Cert.ReferenceIdeal.Value.res_main_v43 m' 0) i o).symm
    exact (Cert.ReferenceIdeal.Hand.ref_apply m' 0 c i o).symm
  · exact (θ_run (Cert.ReferenceIdeal.defs (F := Ideal)) _ _).mono (fun r h => h 0)
      (Cert.ReferenceIdeal.Value.run (F := Ideal) m' ρ')

end Cert.Proof

end
-- ==== Proof.lean ====
/-
  The certificate: each claim from the module that proves it.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, factsK, factsR,
    frame_kernel, frame_kernelIdeal, fun m ρ _ => frame_kernelIdeal m ρ trivial,
    frame_reference, fun m ρ _ => frame_reference m ρ trivial, preserved, equal⟩

end Cert.Proof

end
